-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x16 : Shape := ⟨2, ![512, 16]⟩
abbrev S1024x1 : Shape := ⟨2, ![1024, 1]⟩
abbrev S4x512x1024 : Shape := ⟨3, ![4, 512, 1024]⟩
abbrev S256x1024 : Shape := ⟨2, ![256, 1024]⟩
abbrev S1024x4 : Shape := ⟨2, ![1024, 4]⟩
abbrev S3x256x1024 : Shape := ⟨3, ![3, 256, 1024]⟩
abbrev S3 : Shape := ⟨1, ![3]⟩
abbrev S_ : Shape := ⟨0, ![]⟩
abbrev S1x4 : Shape := ⟨2, ![1, 4]⟩
abbrev S1024x1024 : Shape := ⟨2, ![1024, 1024]⟩
abbrev S2048x1024 : Shape := ⟨2, ![2048, 1024]⟩
abbrev S256x512 : Shape := ⟨2, ![256, 512]⟩
abbrev S256x4 : Shape := ⟨2, ![256, 4]⟩
abbrev S256x1 : Shape := ⟨2, ![256, 1]⟩
abbrev S256x2048 : Shape := ⟨2, ![256, 2048]⟩
abbrev S1x256x1024 : Shape := ⟨3, ![1, 256, 1024]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S1024x512, .bf16⟩
  | .hbm, ⟨1, _⟩ => ⟨S512x16, .bf16⟩
  | .hbm, ⟨2, _⟩ => ⟨S1024x1, .i32⟩
  | .hbm, ⟨3, _⟩ => ⟨S4x512x1024, .bf16⟩
  | .hbm, ⟨4, _⟩ => ⟨S256x1024, .f32⟩
  | .local _ .vmem, ⟨0, _⟩ => ⟨S1024x512, .bf16⟩
  | .local _ .vmem, ⟨1, _⟩ => ⟨S1024x1, .i32⟩
  | .local _ .vmem, ⟨2, _⟩ => ⟨S4x512x1024, .bf16⟩
  | .local _ .vmem, ⟨3, _⟩ => ⟨S256x1024, .f32⟩
  | .local _ .vmem, ⟨4, _⟩ => ⟨S1024x4, .f32⟩
  | .local _ .vmem, ⟨5, _⟩ => ⟨S3x256x1024, .bf16⟩
  | .local _ .vmem, ⟨6, _⟩ => ⟨S3x256x1024, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c1_i32_36 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v74 : BitVec 32 := Scalar.addi v2 c1_i32_36
  let c4_i32_37 : BitVec 32 := 4#32
  let c0_i32_38 : BitVec 32 := 0#32
  let v75 : BitVec 1 := Scalar.cmpi .eq c4_i32_37 c0_i32_38
  let c1_i32_39 : BitVec 32 := 1#32
  let v76 : BitVec 32 := Scalar.select v75 c1_i32_39 c4_i32_37
  let v77 : BitVec 32 := Scalar.remsi v74 v76
  let c0_i32_41 : BitVec 32 := 0#32
  let v79 : BitVec 1 := Scalar.cmpi .slt v77 c0_i32_41
  let c0_i32_42 : BitVec 32 := 0#32
  let v80 : BitVec 1 := Scalar.cmpi .slt v76 c0_i32_42
  let v81 : BitVec 1 := Scalar.xori v79 v80
  let c0_i32_40 : BitVec 32 := 0#32
  let v78 : BitVec 1 := Scalar.cmpi .ne v77 c0_i32_40
  let v82 : BitVec 1 := Scalar.andi v81 v78
  let v83 : BitVec 32 := Scalar.addi v77 v76
  let v84 : BitVec 32 := Scalar.select v82 v83 v77
  let c256_i32 : BitVec 32 := 256#32
  let v85 : BitVec 32 := Scalar.muli v84 c256_i32
  let v86 : Index := Scalar.indexCast v85
  let c0_43 : Index := 0#32
  ![v86.toNat, 0]
def k0_off2 (d0 : Dev nD) (c1_i32_36 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v74 : BitVec 32 := Scalar.addi v2 c1_i32_36
  let c4_i32_37 : BitVec 32 := 4#32
  let c0_i32_38 : BitVec 32 := 0#32
  let v75 : BitVec 1 := Scalar.cmpi .eq c4_i32_37 c0_i32_38
  let c1_i32_39 : BitVec 32 := 1#32
  let v76 : BitVec 32 := Scalar.select v75 c1_i32_39 c4_i32_37
  let v77 : BitVec 32 := Scalar.remsi v74 v76
  let c0_i32_41 : BitVec 32 := 0#32
  let v79 : BitVec 1 := Scalar.cmpi .slt v77 c0_i32_41
  let c0_i32_42 : BitVec 32 := 0#32
  let v80 : BitVec 1 := Scalar.cmpi .slt v76 c0_i32_42
  let v81 : BitVec 1 := Scalar.xori v79 v80
  let c0_i32_40 : BitVec 32 := 0#32
  let v78 : BitVec 1 := Scalar.cmpi .ne v77 c0_i32_40
  let v82 : BitVec 1 := Scalar.andi v81 v78
  let v83 : BitVec 32 := Scalar.addi v77 v76
  let v84 : BitVec 32 := Scalar.select v82 v83 v77
  let c256_i32_44 : BitVec 32 := 256#32
  let v89 : BitVec 32 := Scalar.muli v84 c256_i32_44
  let v90 : Index := Scalar.indexCast v89
  let c0_45 : Index := 0#32
  ![v90.toNat, 0]
def k0_dev4 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_36 : BitVec 32 := 1#32
  let v74 : BitVec 32 := Scalar.addi v2 c1_i32_36
  let c4_i32_37 : BitVec 32 := 4#32
  let c0_i32_38 : BitVec 32 := 0#32
  let v75 : BitVec 1 := Scalar.cmpi .eq c4_i32_37 c0_i32_38
  let c1_i32_39 : BitVec 32 := 1#32
  let v76 : BitVec 32 := Scalar.select v75 c1_i32_39 c4_i32_37
  let v77 : BitVec 32 := Scalar.remsi v74 v76
  let c0_i32_41 : BitVec 32 := 0#32
  let v79 : BitVec 1 := Scalar.cmpi .slt v77 c0_i32_41
  let c0_i32_42 : BitVec 32 := 0#32
  let v80 : BitVec 1 := Scalar.cmpi .slt v76 c0_i32_42
  let v81 : BitVec 1 := Scalar.xori v79 v80
  let c0_i32_40 : BitVec 32 := 0#32
  let v78 : BitVec 1 := Scalar.cmpi .ne v77 c0_i32_40
  let v82 : BitVec 1 := Scalar.andi v81 v78
  let v83 : BitVec 32 := Scalar.addi v77 v76
  let v84 : BitVec 32 := Scalar.select v82 v83 v77
  let c1_i32_54 : BitVec 32 := 1#32
  let v118 : BitVec 32 := Scalar.muli v84 c1_i32_54
  let v119 : BitVec 32 := Scalar.addi c0_i32_55 v118
  v119.toNat
def k0_dev5 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_60 : BitVec 32 := 2#32
  let v128 : BitVec 32 := Scalar.addi v2 c2_i32_60
  let c4_i32_61 : BitVec 32 := 4#32
  let c0_i32_62 : BitVec 32 := 0#32
  let v129 : BitVec 1 := Scalar.cmpi .eq c4_i32_61 c0_i32_62
  let c1_i32_63 : BitVec 32 := 1#32
  let v130 : BitVec 32 := Scalar.select v129 c1_i32_63 c4_i32_61
  let v131 : BitVec 32 := Scalar.remsi v128 v130
  let c0_i32_65 : BitVec 32 := 0#32
  let v133 : BitVec 1 := Scalar.cmpi .slt v131 c0_i32_65
  let c0_i32_66 : BitVec 32 := 0#32
  let v134 : BitVec 1 := Scalar.cmpi .slt v130 c0_i32_66
  let v135 : BitVec 1 := Scalar.xori v133 v134
  let c0_i32_64 : BitVec 32 := 0#32
  let v132 : BitVec 1 := Scalar.cmpi .ne v131 c0_i32_64
  let v136 : BitVec 1 := Scalar.andi v135 v132
  let v137 : BitVec 32 := Scalar.addi v131 v130
  let v138 : BitVec 32 := Scalar.select v136 v137 v131
  let c1_i32_78 : BitVec 32 := 1#32
  let v172 : BitVec 32 := Scalar.muli v138 c1_i32_78
  let v173 : BitVec 32 := Scalar.addi c0_i32_79 v172
  v173.toNat
def k0_dev6 (d0 : Dev nD) : Nat :=
  let c0_i32_103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_84 : BitVec 32 := 3#32
  let v182 : BitVec 32 := Scalar.addi v2 c3_i32_84
  let c4_i32_85 : BitVec 32 := 4#32
  let c0_i32_86 : BitVec 32 := 0#32
  let v183 : BitVec 1 := Scalar.cmpi .eq c4_i32_85 c0_i32_86
  let c1_i32_87 : BitVec 32 := 1#32
  let v184 : BitVec 32 := Scalar.select v183 c1_i32_87 c4_i32_85
  let v185 : BitVec 32 := Scalar.remsi v182 v184
  let c0_i32_89 : BitVec 32 := 0#32
  let v187 : BitVec 1 := Scalar.cmpi .slt v185 c0_i32_89
  let c0_i32_90 : BitVec 32 := 0#32
  let v188 : BitVec 1 := Scalar.cmpi .slt v184 c0_i32_90
  let v189 : BitVec 1 := Scalar.xori v187 v188
  let c0_i32_88 : BitVec 32 := 0#32
  let v186 : BitVec 1 := Scalar.cmpi .ne v185 c0_i32_88
  let v190 : BitVec 1 := Scalar.andi v189 v186
  let v191 : BitVec 32 := Scalar.addi v185 v184
  let v192 : BitVec 32 := Scalar.select v190 v191 v185
  let c1_i32_102 : BitVec 32 := 1#32
  let v226 : BitVec 32 := Scalar.muli v192 c1_i32_102
  let v227 : BitVec 32 := Scalar.addi c0_i32_103 v226
  v227.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_108 : BitVec 32 := 256#32
  let v236 : BitVec 32 := Scalar.muli v2 c256_i32_108
  let v237 : Index := Scalar.indexCast v236
  let c0_109 : Index := 0#32
  ![v237.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_110 : BitVec 32 := 256#32
  let v240 : BitVec 32 := Scalar.muli v2 c256_i32_110
  let v241 : Index := Scalar.indexCast v240
  let c0_111 : Index := 0#32
  ![v241.toNat, 0]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x512 : Shape := ⟨2, ![1024, 512]⟩
abbrev S512x16 : Shape := ⟨2, ![512, 16]⟩
abbrev S1024x1 : Shape := ⟨2, ![1024, 1]⟩
abbrev S16x512x1024 : Shape := ⟨3, ![16, 512, 1024]⟩
abbrev S16 : Shape := ⟨1, ![16]⟩
abbrev S1x16 : Shape := ⟨2, ![1, 16]⟩
abbrev S1024x16 : Shape := ⟨2, ![1024, 16]⟩
abbrev S_ : Shape := ⟨0, ![]⟩
abbrev S16x1024x1024 : Shape := ⟨3, ![16, 1024, 1024]⟩
abbrev S16x1024 : Shape := ⟨2, ![16, 1024]⟩
abbrev S16x1024x1 : Shape := ⟨3, ![16, 1024, 1]⟩
abbrev S1024x1024 : Shape := ⟨2, ![1024, 1024]⟩

abbrev nBuf : Space → Nat
  | .hbm => 34
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S512x16, .bf16⟩
  | .hbm, ⟨2, _⟩ => ⟨S1024x1, .i32⟩
  | .hbm, ⟨3, _⟩ => ⟨S16x512x1024, .bf16⟩
  | .hbm, ⟨4, _⟩ => ⟨S16, .i32⟩
  | .hbm, ⟨5, _⟩ => ⟨S1x16, .i32⟩
  | .hbm, ⟨6, _⟩ => ⟨S1024x16, .i32⟩
  | .hbm, ⟨7, _⟩ => ⟨S1024x16, .i32⟩
  | .hbm, ⟨8, _⟩ => ⟨S1024x16, .i1⟩
  | .hbm, ⟨9, _⟩ => ⟨S1024x16, .i32⟩
  | .hbm, ⟨10, _⟩ => ⟨S_, .i32⟩
  | .hbm, ⟨11, _⟩ => ⟨S_, .i32⟩
  | .hbm, ⟨12, _⟩ => ⟨S1024x16, .i32⟩
  | .hbm, ⟨13, _⟩ => ⟨S1024x16, .i32⟩
  | .hbm, ⟨14, _⟩ => ⟨S_, .i32⟩
  | .hbm, ⟨15, _⟩ => ⟨S1024x16, .i32⟩
  | .hbm, ⟨16, _⟩ => ⟨S1024x16, .i1⟩
  | .hbm, ⟨17, _⟩ => ⟨S_, .i32⟩
  | .hbm, ⟨18, _⟩ => ⟨S1024x16, .i32⟩
  | .hbm, ⟨19, _⟩ => ⟨S1024x16, .i1⟩
  | .hbm, ⟨20, _⟩ => ⟨S1024x16, .i1⟩
  | .hbm, ⟨21, _⟩ => ⟨S1024x512, .f32⟩
  | .hbm, ⟨22, _⟩ => ⟨S16x512x1024, .f32⟩
  | .hbm, ⟨23, _⟩ => ⟨S16x1024x1024, .f32⟩
  | .hbm, ⟨24, _⟩ => ⟨S16x1024x1024, .f32⟩
  | .hbm, ⟨25, _⟩ => ⟨S16x1024, .i1⟩
  | .hbm, ⟨26, _⟩ => ⟨S16x1024x1, .i1⟩
  | .hbm, ⟨27, _⟩ => ⟨S_, .f32⟩
  | .hbm, ⟨28, _⟩ => ⟨S_, .f32⟩
  | .hbm, ⟨29, _⟩ => ⟨S16x1024x1024, .i1⟩
  | .hbm, ⟨30, _⟩ => ⟨S16x1024x1024, .f32⟩
  | .hbm, ⟨31, _⟩ => ⟨S16x1024x1024, .f32⟩
  | .hbm, ⟨32, _⟩ => ⟨S_, .f32⟩
  | .hbm, ⟨33, _⟩ => ⟨S1024x1024, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩

abbrev nD : Nat := 1
abbrev τ : Topo := Topo.v7x

variable {F : FTy → Type} [FloatOps F]
-- ==== Proof.Ideal.Mesh.lean ====
/-
# The four devices and what each of them holds

The mesh is four devices in a ring of offsets: device `c` sends slot `k` to `fwd k c = c + k + 1` and receives
into slot `k` from `bwd k c = c - k - 1` (mod 4). This file fixes those maps, the buffers (the three operands
and the result, the mask, the two three-slot exchange buffers), the seven semaphores of a device, and what
owning one slot means.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Writes
public import Idealize.ShloMosaic.Lib.Memref
public import Idealize.ShloMosaic.Lib.ViewIndex

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the exchange: the rounds of every semaphore, duties named by a slot number. -/
abbrev UB : Type := URounds (GSem nD τ sig) (Fin 3)
/-- Together with the pipeline's own. -/
abbrev UU : Type := UR sig nD τ × UB

local notation "𝕄" => MT nD τ sig Unit (Elt F) ℕ UU ℕ

/-- Where the pipeline's ghost state sits. -/
abbrev EP : Emb (UR sig nD τ) (MT nD τ sig Unit (Elt F) ℕ UU ℕ) := embL
/-- Where the exchange's ghost state sits. -/
abbrev ER : Emb UB (MT nD τ sig Unit (Elt F) ℕ UU ℕ) := embR

/-! ## Offsets round the mesh -/

/-- The device that `c`'s slot `k` goes to. -/
def fwd (k : Fin 3) (c : Dev nD) : Dev nD := ⟨(c.val + k.val + 1) % 4, Nat.mod_lt _ (by decide)⟩
/-- The device that `c`'s receive slot `k` is filled by. -/
def bwd (k : Fin 3) (c : Dev nD) : Dev nD := ⟨(c.val + 3 - k.val) % 4, Nat.mod_lt _ (by decide)⟩

/-- Going back undoes going forward. -/
theorem bwd_fwd (k : Fin 3) (c : Dev nD) : bwd k (fwd k c) = c := by revert k c; decide
/-- Going forward undoes going back. -/
theorem fwd_bwd (k : Fin 3) (c : Dev nD) : fwd k (bwd k c) = c := by revert k c; decide

/-- An offset as a permutation of the devices. -/
def turn (k : Fin 3) : Dev nD ≃ Dev nD := ⟨fwd k, bwd k, bwd_fwd k, fwd_bwd k⟩

/-- The first signal names the device one ahead, which is two back from the slot's view: `bwd 2`. -/
theorem sig1_eq (c : Dev nD) : (⟨k0_dev1 c, k0_dev1_lt c⟩ : Dev nD) = bwd 2 c := Fin.ext (by revert c; decide +kernel)
/-- The second signal names the device two ahead. -/
theorem sig2_eq (c : Dev nD) : (⟨k0_dev2 c, k0_dev2_lt c⟩ : Dev nD) = bwd 1 c := Fin.ext (by revert c; decide +kernel)
/-- The third signal names the device three ahead. -/
theorem sig3_eq (c : Dev nD) : (⟨k0_dev3 c, k0_dev3_lt c⟩ : Dev nD) = bwd 0 c := Fin.ext (by revert c; decide +kernel)
/-- Slot 0 is sent one device ahead. -/
theorem send0_eq (c : Dev nD) : (⟨k0_dev4 c, k0_dev4_lt c⟩ : Dev nD) = fwd 0 c := Fin.ext (by revert c; decide +kernel)
/-- Slot 1 is sent two devices ahead. -/
theorem send1_eq (c : Dev nD) : (⟨k0_dev5 c, k0_dev5_lt c⟩ : Dev nD) = fwd 1 c := Fin.ext (by revert c; decide +kernel)
/-- Slot 2 is sent three devices ahead. -/
theorem send2_eq (c : Dev nD) : (⟨k0_dev6 c, k0_dev6_lt c⟩ : Dev nD) = fwd 2 c := Fin.ext (by revert c; decide +kernel)

/-! ## Buffers -/

/-- The tokens, staged. -/
abbrev xM : Memref sig .tc .vmem S1024x512 .bf16 := Memref.whole cc0_stg0_0
/-- The route indices, staged. -/
abbrev idxM : Memref sig .tc .vmem S1024x1 .i32 := Memref.whole cc0_stg1_0
/-- The device's four experts, staged. -/
abbrev wM : Memref sig .tc .vmem S4x512x1024 .bf16 := Memref.whole cc0_stg2_0
/-- The result block, staged. -/
abbrev outM : Memref sig .tc .vmem S256x1024 .f32 := Memref.whole cc0_stg3_0
/-- The mask of served tokens. -/
abbrev maskM : Memref sig .tc .vmem S1024x4 .f32 := Memref.whole cc0_scratch0
/-- The three slots sent from. -/
abbrev sendM : Memref sig .tc .vmem S3x256x1024 .bf16 := Memref.whole cc0_scratch1
/-- The three slots received into. -/
abbrev recvM : Memref sig .tc .vmem S3x256x1024 .bf16 := Memref.whole cc0_scratch2

/-- Slot `k` of a three-slot buffer starts at row block `k`. -/
abbrev slotOff : Fin 3 → Fin 3 → Nat := fun | 0 => ![0, 0, 0] | 1 => ![1, 0, 0] | 2 => ![2, 0, 0]
/-- A slot lies within its buffer. -/
theorem slotOff_inb (k : Fin 3) : ∀ a, slotOff k a + S1x256x1024.size a ≤ S3x256x1024.size a := by
  fin_cases k <;> decide
/-- Slot `k` as a rectangle. -/
abbrev slotR (k : Fin 3) : Rect S3x256x1024 := Rect.unit (s := S3x256x1024) (slotOff k) S1x256x1024.size (slotOff_inb k)

/-- Send slot `k`. -/
abbrev sendSlot (k : Fin 3) : Memref sig .tc .vmem S1x256x1024 .bf16 := sendM.slice (slotR k) (fun _ => rfl)
/-- Receive slot `k`. -/
abbrev recvSlot (k : Fin 3) : Memref sig .tc .vmem S1x256x1024 .bf16 := recvM.slice (slotR k) (fun _ => rfl)
/-- Send slot `k` as the copy names it, without the slot axis. -/
abbrev sendFlat (k : Fin 3) : Memref sig .tc .vmem S256x1024 .bf16 := (sendSlot k).squeeze S256x1024 squeezes_S1x256x1024_S256x1024
/-- Receive slot `k` as the copy names it. -/
abbrev recvFlat (k : Fin 3) : Memref sig .tc .vmem S256x1024 .bf16 := (recvSlot k).squeeze S256x1024 squeezes_S1x256x1024_S256x1024

/-! ## Semaphores -/

/-- The barrier semaphore. -/
abbrev barS : Sem sig := (SemArray.scalar (sig.barrier 0 rfl) : Sems sig S_).sem
/-- The semaphore counting slot `k` read out. -/
abbrev sS : Fin 3 → DmaSem sig := fun | 0 => ⟨4, by decide⟩ | 1 => ⟨5, by decide⟩ | 2 => ⟨6, by decide⟩
/-- The semaphore counting slot `k` landed. -/
abbrev vS : Fin 3 → DmaSem sig := fun | 0 => ⟨7, by decide⟩ | 1 => ⟨8, by decide⟩ | 2 => ⟨9, by decide⟩

/-- Entry 0 of the send semaphores. -/
theorem send_at0 : ((cc0_scratch3.slice (Rect.unit (s := S3) ![0] ![1] inb_S3_S1_0)).squeeze S_ squeezes_S1_S_).sem = sS 0 := rfl
/-- Entry 1 of the send semaphores. -/
theorem send_at1 : ((cc0_scratch3.slice (Rect.unit (s := S3) ![1] ![1] inb_S3_S1_1)).squeeze S_ squeezes_S1_S_).sem = sS 1 := rfl
/-- Entry 2 of the send semaphores. -/
theorem send_at2 : ((cc0_scratch3.slice (Rect.unit (s := S3) ![2] ![1] inb_S3_S1_2)).squeeze S_ squeezes_S1_S_).sem = sS 2 := rfl
/-- Entry 0 of the receive semaphores. -/
theorem recv_at0 : ((cc0_scratch4.slice (Rect.unit (s := S3) ![0] ![1] inb_S3_S1_0)).squeeze S_ squeezes_S1_S_).sem = vS 0 := rfl
/-- Entry 1 of the receive semaphores. -/
theorem recv_at1 : ((cc0_scratch4.slice (Rect.unit (s := S3) ![1] ![1] inb_S3_S1_1)).squeeze S_ squeezes_S1_S_).sem = vS 1 := rfl
/-- Entry 2 of the receive semaphores. -/
theorem recv_at2 : ((cc0_scratch4.slice (Rect.unit (s := S3) ![2] ![1] inb_S3_S1_2)).squeeze S_ squeezes_S1_S_).sem = vS 2 := rfl

/-- Device `c`'s barrier. -/
abbrev barCell (c : Dev nD) : GSem nD τ sig := ((c : Thread nD τ), .reg barS)
/-- Device `c`'s count of slot `k` read out. -/
abbrev sCell (k : Fin 3) (c : Dev nD) : GSem nD τ sig := ((c : Thread nD τ), .dma (sS k))
/-- Device `c`'s count of slot `k` landed. -/
abbrev vCell (k : Fin 3) (c : Dev nD) : GSem nD τ sig := ((c : Thread nD τ), .dma (vS k))

/-- The six scoped semaphores, in the order they are handed over. -/
abbrev osem : Fin 6 → SemLoc sig := fun
  | 0 => .dma (sS 0) | 1 => .dma (sS 1) | 2 => .dma (sS 2) | 3 => .dma (vS 0) | 4 => .dma (vS 1) | 5 => .dma (vS 2)
/-- All seven of a device: the barrier, three sends, three receives. -/
abbrev csem : Fin 7 → SemLoc sig := fun
  | 0 => .reg barS | 1 => .dma (sS 0) | 2 => .dma (sS 1) | 3 => .dma (sS 2) | 4 => .dma (vS 0) | 5 => .dma (vS 1) | 6 => .dma (vS 2)
/-- A device's semaphore by number. -/
abbrev kcell (ck : Dev nD × Fin 7) : GSem nD τ sig := ((ck.1 : Thread nD τ), csem ck.2)

/-- The credit of one copied slot. -/
abbrev N : ℕ := (recvFlat 0).view.dmaCredit
/-- It is positive. -/
theorem N_pos : 0 < N := View.dmaCredit_pos _ (by decide)

/-! ## Owning a slot -/

omit [FloatOps F] in
/-- Copying send slot `k` over receive slot `k` leaves in it what the send slot read. -/
theorem land (k : Fin 3) (fd : recvM.view.ty.Contents (Elt F)) (fs : sendM.view.ty.Contents (Elt F)) :
    (recvSlot k).view.read (Elt F) ((recvFlat k).view.write (Elt F) fd ((sendFlat k).view.read (Elt F) fs) Finset.univ)
      = (sendSlot k).view.read (Elt F) fs := by
  funext x
  have h := View.read_write_reshape (v := (recvSlot k).view) (Val := Elt F) (s' := S256x1024)
    squeezes_S1x256x1024_S256x1024.numel_eq fd ((sendFlat k).view.read (Elt F) fs)
      ((Shape.reshapeEquiv squeezes_S1x256x1024_S256x1024.numel_eq).symm x)
  rw [Equiv.apply_symm_apply] at h
  refine h.trans ?_
  show (sendSlot k).view.read (Elt F) fs (Shape.reshapeEquiv squeezes_S1x256x1024_S256x1024.numel_eq
    ((Shape.reshapeEquiv squeezes_S1x256x1024_S256x1024.numel_eq).symm x)) = _
  rw [Equiv.apply_symm_apply]

/-- The three slots are disjoint; -/
theorem slots_disjoint (k k' : Fin 3) (h : k ≠ k') : Disjoint (slotR k).set (slotR k').set :=
  Rect.unit_disjoint (0 : Fin 3) (by
    fin_cases k <;> fin_cases k' <;> first | exact absurd rfl h | (left; decide) | (right; decide))

/-- and they are the whole buffer. -/
theorem slots_cover : ((Finset.univ : Finset (Fin 3)).biUnion fun k => (slotR k).set) = Finset.univ := by
  ext i
  simp only [Finset.mem_biUnion, Finset.mem_univ, true_and, iff_true]
  have h0 : (i 0).val < 3 := (i 0).isLt
  have h1 : (i 1).val < 256 := (i 1).isLt
  have h2 : (i 2).val < 1024 := (i 2).isLt
  refine ⟨⟨(i 0).val, h0⟩, ?_⟩
  have hk : ∀ k : Fin 3, k.val = (i 0).val → i ∈ (slotR k).set := fun k hk => by
    rw [Rect.mem_set_unit]
    intro a
    match a with
    | ⟨0, _⟩ => fin_cases k <;> exact ⟨hk.le, hk.ge.trans_lt (Nat.lt_succ_self _)⟩
    | ⟨1, _⟩ => fin_cases k <;> exact ⟨Nat.zero_le _, (Nat.zero_add 256).symm ▸ h1⟩
    | ⟨2, _⟩ => fin_cases k <;> exact ⟨Nat.zero_le _, (Nat.zero_add 1024).symm ▸ h2⟩
  exact hk _ rfl

/-- One contents of the three-slot buffer with the three given slots. -/
def gather {α : Type} (X : Fin 3 → S1x256x1024.Idx → α) : S3x256x1024.Idx → α :=
  fun i => X (i 0) (fun a => match a with
    | ⟨0, _⟩ => (⟨0, Nat.one_pos⟩ : Fin 1)
    | ⟨1, _⟩ => i 1
    | ⟨2, _⟩ => i 2)

/-- Its slot `k` is the given one. -/
theorem gather_slot {α : Type} (X : Fin 3 → S1x256x1024.Idx → α) (k : Fin 3) (j : S1x256x1024.Idx) :
    gather X ((slotR k).emb j) = X k j := by
  have hj : (j 0).val = 0 := by have : (j 0).val < 1 := (j 0).isLt; omega
  have h0 : (slotR k).emb j 0 = k := Fin.ext (by
    show (slotOff k 0 + 1 * (j 0).val) = k.val
    rw [hj]; fin_cases k <;> rfl)
  have key : ∀ (k' : Fin 3) (y : S1x256x1024.Idx), k' = k → y = j → X k' y = X k j := by
    rintro _ _ rfl rfl; rfl
  refine key _ _ h0 (Shape.idx3_ext hj.symm ?_ ?_)
  · show slotOff k 1 + 1 * (j 1).val = (j 1).val
    rw [show slotOff k 1 = 0 from by fin_cases k <;> rfl]; omega
  · show slotOff k 2 + 1 * (j 2).val = (j 2).val
    rw [show slotOff k 2 = 0 from by fin_cases k <;> rfl]; omega

omit [FloatOps F] in
/-- A whole three-slot buffer, at any contents, is its three slots at some. -/
theorem split_slots (c : Dev nD) (b : Memref sig .tc .vmem S3x256x1024 .bf16) (X : S3x256x1024.Idx → Elt F .bf16) :
    (owns (Ix := Unit) (Name := ℕ) (U := UU) (Lvl := ℕ) (c : Thread nD τ) b fullShare X : sProp 𝕄)
      ⊢ bigSep Finset.univ fun k : Fin 3 => iprop(∃ Y, owns (c : Thread nD τ) (b.slice (slotR k) (fun _ => rfl)) fullShare Y) :=
  (owns_rects (c : Thread nD τ) b fullShare slotR (fun _ _ => rfl) slots_disjoint slots_cover X).trans
    (bigSep_mono fun k _ =>
      exists_intro (Φ := fun Y => owns (c : Thread nD τ) (b.slice (slotR k) (fun _ => rfl)) fullShare Y) (fun j => X ((slotR k).emb j)))

/-- And the three slots are the whole buffer at some contents. -/
theorem join_slots (c : Dev nD) (b : Memref sig .tc .vmem S3x256x1024 .bf16) (X : Fin 3 → S1x256x1024.Idx → Elt F .bf16) :
    (bigSep Finset.univ fun k : Fin 3 => (owns (c : Thread nD τ) (b.slice (slotR k) (fun _ => rfl)) fullShare (X k) : sProp 𝕄))
      ⊢ iprop(∃ Y, owns (Ix := Unit) (Name := ℕ) (U := UU) (Lvl := ℕ) (c : Thread nD τ) b fullShare Y) := by
  iintro H
  iexists (gather X)
  iapply (owns_of_rects (c : Thread nD τ) b fullShare slotR (fun _ _ => rfl) slots_disjoint slots_cover (gather X))
  iapply (Entails.of_eq (bigSep_congr fun k _ =>
    congrArg (owns (c : Thread nD τ) (b.slice (slotR k) (fun _ => rfl)) fullShare) (funext fun j => (gather_slot X k j).symm)))
  iexact H

end Cert.KernelIdeal.Exchange

end
-- ==== Proof.Ideal.Contents.lean ====
/-
# What the buffers hold

Each buffer's contents during the run as terms over the initial memory: the staged operands, the mask, the three
parts a device sends, the block it writes.
-/
module

public import proofs.«01_k».proof.Proof.Ideal.Mesh

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Operands as staged -/

/-- The tokens as device `c` stages them. -/
def xAt (c : Dev nD) : (cc0_stg0_0 : Ref sig .tc).ty.Contents (Elt F) :=
  (win0_0.blk (0 : Fin 1)).view.read (Elt F) (m ((c : Thread nD τ).loc main_arg0))
/-- The route indices as device `c` stages them. -/
def idxAt (c : Dev nD) : (cc0_stg1_0 : Ref sig .tc).ty.Contents (Elt F) :=
  (win0_1.blk (0 : Fin 1)).view.read (Elt F) (m ((c : Thread nD τ).loc main_arg2))
/-- Device `c`'s four experts as it stages them. -/
def wAt (c : Dev nD) : (cc0_stg2_0 : Ref sig .tc).ty.Contents (Elt F) :=
  (win0_2.blk (0 : Fin 1)).view.read (Elt F) (m ((c : Thread nD τ).loc main_arg3))

/-- A device's position on the mesh axis, as the word the kernel computes. -/
abbrev me (c : Dev nD) : BitVec 32 := Scalar.remsi (Scalar.divsi (Dev.word c) 1#32) 4#32

/-- Which tokens device `c`'s four experts serve. -/
def maskAt (c : Dev nD) : FVec F S1024x4 .f32 := k0_pay1 (me c) (idxAt m c)

/-- A block of 256 tokens of device `c`, at the offset a load names. -/
def xRows (c : Dev nD) (off : Fin 2 → Nat) (h : ∀ a, off a + S256x512.size a ≤ S1024x512.size a) : Vec F S256x512 .bf16 :=
  xM.view.readAt (Elt F) (Rect.unit (s := S1024x512) off S256x512.size h).toLoadRect (xAt m c)
/-- The same rows of its mask. -/
def maskRows (c : Dev nD) (off : Fin 2 → Nat) (h : ∀ a, off a + S256x4.size a ≤ S1024x4.size a) : Vec F S256x4 .f32 :=
  maskM.view.readAt (Elt F) (Rect.unit (s := S1024x4) off S256x4.size h).toLoadRect (maskAt m c)

/-- What device `c` puts into its send slot `k`: its experts' part of the rows that device `fwd k c` keeps. -/
def slab (c : Dev nD) : Fin 3 → S1x256x1024.Idx → Elt F .bf16
  | 0 => k0_pay4 (k0_pay3 (wAt m c) (xRows m c (k0_off1 c 1#32) (k0_off1_inb c 0)) (maskRows m c (k0_off2 c 1#32) (k0_off2_inb c 0)))
  | 1 => k0_pay8 (k0_pay2 (wAt m c)) (k0_pay5 (xRows m c (k0_off1 c 2#32) (k0_off1_inb c 1))) (maskRows m c (k0_off2 c 2#32) (k0_off2_inb c 1))
      (k0_pay6 (xRows m c (k0_off1 c 2#32) (k0_off1_inb c 1)) (maskRows m c (k0_off2 c 2#32) (k0_off2_inb c 1)))
      (k0_pay7 (maskRows m c (k0_off2 c 2#32) (k0_off2_inb c 1)))
  | 2 => k0_pay9 (k0_pay2 (wAt m c)) (xRows m c (k0_off1 c 3#32) (k0_off1_inb c 2)) (maskRows m c (k0_off2 c 3#32) (k0_off2_inb c 2))

/-- Device `c`'s result block: its own part of its rows and the three parts received. -/
def outAt (c : Dev nD) : (cc0_stg3_0 : Ref sig .tc).ty.Contents (Elt F) :=
  k0_pay11 (k0_pay10 (k0_pay2 (wAt m c)) (xRows m c (k0_off3 c) (k0_off3_inb c)) (maskRows m c (k0_off4 c) (k0_off4_inb c)))
    (slab m (bwd 0 c) 0) (slab m (bwd 1 c) 1) (slab m (bwd 2 c) 2)

end Cert.KernelIdeal.Exchange

end
-- ==== Proof.Ideal.Schedule.lean ====
/-
# The exchange's schedule

Who signals whom, what each completion hands over (with contents), what each device owes at every moment, and why
no wait can be for something that depends on itself. The barrier's three signals hand device `c` the three receive
slots it will write on other devices; each copy's landing hands the receiver its slot with the sender's part in
it, and the read-out hands the sender its own slot back.
-/
module

public import proofs.«01_k».proof.Proof.Ideal.Contents

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A slot held whole at contents `X`. -/
abbrev holds (c : Dev nD) (b : Memref sig .tc .vmem S1x256x1024 .bf16) (X : S1x256x1024.Idx → Elt F .bf16) : sProp 𝕄 :=
  owns (Ix := Unit) (Name := ℕ) (U := UU) (Lvl := ℕ) (c : Thread nD τ) b fullShare X

/-! ## The schedule -/

/-- A semaphore's part: counting slot `k` read out (`true`), landed (`false`), or neither. -/
def role (sm : SemLoc sig) : Option (Bool × Fin 3) :=
  if sm = .dma (sS 0) then some (true, 0) else if sm = .dma (sS 1) then some (true, 1) else if sm = .dma (sS 2) then some (true, 2)
  else if sm = .dma (vS 0) then some (false, 0) else if sm = .dma (vS 1) then some (false, 1) else if sm = .dma (vS 2) then some (false, 2)
  else none

/-- The send semaphores' part. -/
theorem role_s (k : Fin 3) : role (.dma (sS k)) = some (true, k) := by fin_cases k <;> decide
/-- The receive semaphores' part. -/
theorem role_v (k : Fin 3) : role (.dma (vS k)) = some (false, k) := by fin_cases k <;> decide
/-- The barrier has neither. -/
theorem role_bar : role (.reg barS) = none := by decide

/-- What a signal on duty `k` of device `d`'s barrier brings: receive slot `k` of the device `d` sends it to. -/
def barPay (k : Fin 3) (d : Dev nD) : sProp 𝕄 := iprop(∃ X, holds (fwd k d) (recvSlot k) X)

/-- What completes on a device's semaphore, by its part. -/
def xferPay (d : Dev nD) : Bool × Fin 3 → sProp 𝕄
  | (true, k) => holds d (sendSlot k) (slab m d k)
  | (false, k) => holds d (recvSlot k) (slab m (bwd k d) k)

/-- The exchange: the barrier's round has three unit signals, each transfer semaphore's one slot's credit. -/
def exch : Rounds.Schedule (GSem nD τ sig) (Fin 3) 𝕄 where
  duties g r := if r = 0 ∧ g.1.2 = .tc then (if g.2 = .reg barS then Finset.univ else if (role g.2).isSome then {0} else ∅) else ∅
  unitless _ := False
  amount g _ _ := if g.2 = .reg barS then 1 else N
  payload g _ d := if g.2 = .reg barS then barPay d g.1.1 else
    match role g.2 with
    | some p => xferPay m g.1.1 p
    | none => iprop(emp)
  amount_pos g _ _ _ := by
    by_cases h : g.2 = .reg barS
    · rw [if_pos h]; exact Nat.one_pos
    · rw [if_neg h]; exact N_pos

omit [FloatOps F] in
/-- What a barrier signal carries can be kept in an invariant. -/
instance barPay_storable (k : Fin 3) (d : Dev nD) : BI.Storable (upEmb : UEmb _ 𝕄) (barPay (F := F) k d) := by
  unfold barPay; infer_instance
/-- What a landed or sent copy carries can be kept in an invariant. -/
instance xferPay_storable (d : Dev nD) (p : Bool × Fin 3) : BI.Storable (upEmb : UEmb _ 𝕄) (xferPay m d p) := by
  rcases p with ⟨_ | _, k⟩ <;> (unfold xferPay; infer_instance)
/-- Every payload of the schedule can be kept in an invariant. -/
instance exch_storable (g : GSem nD τ sig) (r : ℕ) (d : Fin 3) : BI.Storable (upEmb : UEmb _ 𝕄) ((exch m).payload g r d) := by
  unfold exch; dsimp only
  split
  · infer_instance
  · split <;> infer_instance

/-- The barrier's three duties. -/
theorem duties_bar (c : Dev nD) : (exch m).duties (barCell c) 0 = Finset.univ := by
  dsimp only [exch]; rw [if_pos ⟨rfl, rfl⟩, if_pos rfl]
/-- A transfer semaphore's one duty. -/
theorem duties_xfer (c : Dev nD) {q : DmaSem sig} {p : Bool × Fin 3} (hq : role (.dma q) = some p) :
    (exch m).duties ((c : Thread nD τ), .dma q) 0 = {0} := by
  dsimp only [exch]; rw [if_pos ⟨rfl, rfl⟩, if_neg (fun h => by cases h), hq]; rfl
/-- No duties after the first round. -/
theorem duties_later (g : GSem nD τ sig) : ∀ r, 1 ≤ r → (exch m).duties g r = ∅ :=
  fun r hr => by dsimp only [exch]; exact if_neg fun h => by omega

/-- A barrier signal is of one unit. -/
theorem amount_bar (c : Dev nD) (d : Fin 3) : (exch m).amount (barCell c) 0 d = 1 := by dsimp only [exch]; exact if_pos rfl
/-- A transfer's completion is of one slot's credit. -/
theorem amount_xfer (c : Dev nD) (q : DmaSem sig) (d : Fin 3) : (exch m).amount ((c : Thread nD τ), .dma q) 0 d = N := by
  dsimp only [exch]; exact if_neg (fun h => by cases h)

/-- The barrier's round is three units. -/
theorem expect_bar (c : Dev nD) : (exch m).expect (barCell c) 0 = 3 := by
  unfold Schedule.expect Schedule.amountOf
  rw [duties_bar, Finset.sum_congr rfl fun d _ => amount_bar m c d]; rfl
/-- A transfer semaphore's round is one slot's credit. -/
theorem expect_xfer (c : Dev nD) {q : DmaSem sig} {p : Bool × Fin 3} (hq : role (.dma q) = some p) :
    (exch m).expect ((c : Thread nD τ), .dma q) 0 = N := by
  unfold Schedule.expect Schedule.amountOf; rw [duties_xfer m c hq, Finset.sum_singleton, amount_xfer]

/-- What a barrier duty brings. -/
theorem payload_bar (c : Dev nD) (d : Fin 3) : (exch m).payload (barCell c) 0 d = barPay d c := by dsimp only [exch]; exact if_pos rfl
/-- What a transfer brings. -/
theorem payload_xfer (c : Dev nD) {q : DmaSem sig} {p : Bool × Fin 3} (hq : role (.dma q) = some p) (d : Fin 3) :
    (exch m).payload ((c : Thread nD τ), .dma q) 0 d = xferPay m c p := by
  dsimp only [exch]; rw [if_neg (fun h => by cases h), hq]

omit [FloatOps F] in
/-- A conjunction over the three slots. -/
theorem bigSep_slots (Φ : Fin 3 → sProp 𝕄) : bigSep Finset.univ Φ = iprop(Φ 0 ∗ Φ 1 ∗ Φ 2) :=
  bigSep_univ_eq_bigSepL [0, 1, 2] (by decide) (by decide) Φ
omit [FloatOps F] in
/-- A conjunction over the seven semaphores. -/
theorem bigSep_cells (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- All that the barrier's round brings. -/
theorem rest_bar (c : Dev nD) : bigSep ((exch m).duties (barCell c) 0 \ ∅) (fun d => (exch m).payload (barCell c) 0 d)
    = iprop(barPay 0 c ∗ barPay 1 c ∗ barPay 2 c) := by
  rw [Finset.sdiff_empty, duties_bar, bigSep_congr (fun d _ => payload_bar m c d), bigSep_slots]
/-- All that a transfer semaphore's round brings. -/
theorem rest_xfer (c : Dev nD) {q : DmaSem sig} {p : Bool × Fin 3} (hq : role (.dma q) = some p) :
    bigSep ((exch m).duties ((c : Thread nD τ), .dma q) 0 \ ∅) (fun d => (exch m).payload ((c : Thread nD τ), .dma q) 0 d) = xferPay m c p := by
  rw [Finset.sdiff_empty, duties_xfer m c hq, bigSep_singleton, payload_xfer m c hq]

/-! ## What each device owes, and in what order waits may stand -/

/-- After two copies: the third's landing. -/
def D2 (c : Dev nD) : CellTallies nD τ sig Unit := tallyAt (vCell 2 (fwd 2 c)) () N
/-- After one copy. -/
def D1 (c : Dev nD) : CellTallies nD τ sig Unit := D2 c + tallyAt (vCell 1 (fwd 1 c)) () N
/-- After the barrier: all three landings. -/
def D0 (c : Dev nD) : CellTallies nD τ sig Unit := D1 c + tallyAt (vCell 0 (fwd 0 c)) () N
/-- After two signals. -/
def B2 (c : Dev nD) : CellTallies nD τ sig Unit := D0 c + tallyAt (barCell (bwd 0 c)) () 1
/-- After one signal. -/
def B1 (c : Dev nD) : CellTallies nD τ sig Unit := B2 c + tallyAt (barCell (bwd 1 c)) () 1
/-- At the start: three signals and three landings. -/
def O₀ (c : Dev nD) : CellTallies nD τ sig Unit := B1 c + tallyAt (barCell (bwd 2 c)) () 1

/-- The units a wait names: one per semaphore of the main cores. -/
def L (g : GSem nD τ sig) : Finset Unit := if g.1.2 = .tc then {()} else ∅
/-- The order: the barrier below the landings, everything else at the bottom. -/
def lv (g : GSem nD τ sig) (_ : Unit) : ℕ := if g.2 = .reg barS then 1 else if (role g.2).map Prod.fst = some false then 2 else 0

/-- Only main cores have any. -/
theorem L_of_ne (g : GSem nD τ sig) (h : g.1.2 ≠ .tc) : L g = ∅ := if_neg h
/-- A main core's semaphores have the one. -/
theorem L_tc (c : Dev nD) (sm : SemLoc sig) : L ((c : Thread nD τ), sm) = {()} := if_pos rfl
/-- The barrier's level. -/
theorem lv_bar (c : Dev nD) : lv (barCell c) () = 1 := if_pos rfl
/-- A landing's level. -/
theorem lv_v (k : Fin 3) (c : Dev nD) : lv (vCell k c) () = 2 := by
  dsimp only [lv]; rw [if_neg (fun h => by cases h), role_v]; rfl

/-- What is owed after the barrier is owed to landings. -/
theorem D0_pos {c : Dev nD} {g : GSem nD τ sig} {u : Unit} (h : 0 < D0 c g u) : ∃ k, g = vCell k (fwd k c) := by
  by_contra hn
  have hne : ∀ k, g ≠ vCell k (fwd k c) := fun k hk => hn ⟨k, hk⟩
  unfold D0 D1 D2 at h
  simp only [Pi.add_apply, Finsupp.add_apply, tallyAt_apply] at h
  rw [if_neg (fun h' => hne 2 h'.1), if_neg (fun h' => hne 1 h'.1), if_neg (fun h' => hne 0 h'.1)] at h
  exact Nat.lt_irrefl 0 h
/-- What is owed at the start is owed to landings and barriers. -/
theorem O₀_pos {c : Dev nD} {g : GSem nD τ sig} {u : Unit} (h : 0 < O₀ c g u) :
    (∃ k, g = vCell k (fwd k c)) ∨ ∃ k, g = barCell (bwd k c) := by
  by_contra hn; rw [not_or] at hn
  have hne : ∀ k, g ≠ barCell (bwd k c) := fun k hk => hn.2 ⟨k, hk⟩
  unfold O₀ B1 B2 at h
  simp only [Pi.add_apply, Finsupp.add_apply] at h
  rw [tallyAt_apply, tallyAt_apply, tallyAt_apply,
    if_neg (fun h' => hne 0 h'.1), if_neg (fun h' => hne 1 h'.1), if_neg (fun h' => hne 2 h'.1)] at h
  exact hn.1 (D0_pos (by simpa only [Nat.add_zero] using h))

omit [FloatOps F] in
/-- A bottom-level transfer semaphore may be waited on at the start and at the end. -/
theorem mayWait_stage (c : Dev nD) (q : DmaSem sig) (hq : role (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by
        rw [Finset.mem_singleton.mp hp]; dsimp only [lv]
        rw [if_neg (fun h => by cases h), hq]; exact (if_neg (by decide)).le)
      (fun g u hg => by
        rcases O₀_pos hg with ⟨k, rfl⟩ | ⟨k, rfl⟩
        · rw [lv_v]; decide
        · rw [lv_bar]; decide)
  · rw [MayWait_zero]; iintro -; iempintro

omit [FloatOps F] in
/-- At its barrier a device owes the three landings, which stand above it. -/
theorem mayWait_bar (c : Dev nD) : (levAts L lv : sProp 𝕄) ⊢ MayWait (c : Thread nD τ) (.reg barS) () (D0 c) :=
  MayOwe.of_cut (L := L) (lev := lv) 1 (fun p hp => by rw [Finset.mem_singleton.mp hp, L_tc]; exact Finset.mem_singleton_self _)
    (fun g u hg => by obtain ⟨k, rfl⟩ := D0_pos hg; exact Finset.mem_singleton_self _)
    (fun p hp => by rw [Finset.mem_singleton.mp hp]; exact (lv_bar c).le)
    (fun g u hg => by obtain ⟨k, rfl⟩ := D0_pos hg; rw [lv_v]; decide)

/-! ## The pipeline's data -/

/-- Every device's semaphores are scheduled and at their first round. -/
def records (K : Dev nD × Fin 7 → ℕ) : sProp 𝕄 :=
  iprop((bigSep Finset.univ fun ck : Dev nD × Fin 7 => cellInv ER (exch m) (K ck) (kcell ck))
    ∗ bigSep Finset.univ fun ck : Dev nD × Fin 7 => reached ER (kcell ck) 0)
/-- The records of the schedule may be used any number of times. -/
instance records_persistent (K : Dev nD × Fin 7 → ℕ) : BI.Persistent (records m K) := by unfold records; infer_instance

/-- One semaphore's schedule. -/
theorem inv_of (K : Dev nD × Fin 7 → ℕ) (ck : Dev nD × Fin 7) : records m K ⊢ cellInv ER (exch m) (K ck) (kcell ck) := by
  unfold records; iintro ⟨H, -⟩
  iapply (show (bigSep Finset.univ fun ck : Dev nD × Fin 7 => (cellInv ER (exch m) (K ck) (kcell ck) : sProp 𝕄)) ⊢ cellInv ER (exch m) (K ck) (kcell ck)
    from bigSep_elim (Finset.mem_univ ck))
  iexact H
/-- One semaphore's first round. -/
theorem reached_of (K : Dev nD × Fin 7 → ℕ) (ck : Dev nD × Fin 7) : records m K ⊢ reached ER (kcell ck) 0 := by
  unfold records; iintro ⟨-, H⟩
  iapply (show (bigSep Finset.univ fun ck : Dev nD × Fin 7 => (reached ER (kcell ck) 0 : sProp 𝕄)) ⊢ reached ER (kcell ck) 0
    from bigSep_elim (Finset.mem_univ ck))
  iexact H

/-- The right to wait, on each of its semaphores. -/
def places (c : Dev nD) : sProp 𝕄 := bigSep Finset.univ fun k : Fin 7 => atPos ER (kcell (c, k)) 0 ∅ 0

/-- The duties device `c` performs: three signals, three landings, three reads. -/
def payToks (c : Dev nD) : sProp 𝕄 :=
  iprop((bigSep Finset.univ fun k : Fin 3 => dutyTok ER (barCell (bwd k c)) 0 k)
    ∗ (bigSep Finset.univ fun k : Fin 3 => dutyTok ER (vCell k (fwd k c)) 0 0)
    ∗ bigSep Finset.univ fun k : Fin 3 => dutyTok ER (sCell k c) 0 0)

/-- Device `c`'s part of the exchange. -/
def ghost (K : Dev nD × Fin 7 → ℕ) (c : Dev nD) : sProp 𝕄 := iprop(records m K ∗ places c ∗ payToks c)

/-- What device `c` starts the kernel with. -/
def start (c : Dev nD) : sProp 𝕄 :=
  iprop((∃ K, ghost m K c) ∗ cred (tallyAt (barCell c) () 3) ∗ (bigSep Finset.univ fun k : Fin 3 => cred (tallyAt (vCell k c) () N)) ∗ levAts L lv)

/-- Before the body. -/
def Φ₀ (c : Dev nD) : sProp 𝕄 := iprop(start m c ∗ Pipeline.scopedRest (Ix := Unit) (Name := ℕ) (U := UU) (Lvl := ℕ) (Val := Elt F) spec0 c)
/-- After the body: the scratch buffers back, every semaphore at zero. -/
def Φ₁ (c : Dev nD) : sProp 𝕄 :=
  iprop((bigSep Finset.univ fun k : Fin 7 => semVal (kcell (c, k)) 0)
    ∗ Pipeline.scopedRest (Ix := Unit) (Name := ℕ) (U := UU) (Lvl := ℕ) (Val := Elt F) spec0 c)

/-- The pipeline's data: one point, the operands unchanged, the result block computed. -/
def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => idxAt m c
    | ⟨2, _⟩ => wAt m c
    | ⟨3, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- No loops to bound. -/
abbrev 𝒱₀ : Variants := Variants.none

end Cert.KernelIdeal.Exchange

end
-- ==== Proof.Ideal.Slots.lean ====
/-
# One slot, one operation

The rules the body is run by: loading from and storing to a slot, sending it, waiting for a transfer, signalling a
barrier. Each is stated once for a slot number and used three times.
-/
module

public import proofs.«01_k».proof.Proof.Ideal.Schedule

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## One slot, one operation -/

/-- What a landing brings: the sender's part in the receive slot. -/
theorem xfer_landed (c : Dev nD) (k : Fin 3) : xferPay m c (false, k) = holds c (recvSlot k) (slab m (bwd k c) k) := rfl
/-- What a read-out brings: the send slot back. -/
theorem xfer_read (c : Dev nD) (k : Fin 3) : xferPay m c (true, k) = holds c (sendSlot k) (slab m c k) := rfl

/-- Reading a slot held at `X` gives `X`. -/
theorem load_slot (c : Dev nD) (b : Memref sig .tc .vmem S3x256x1024 .bf16) (k : Fin 3) (X : S1x256x1024.Idx → Elt F .bf16)
    {hl : b.view.LoadsAt (slotR k).toLoadRect} {α : Type} {Q : α → sProp 𝕄} {cont : (S1x256x1024.Idx → Elt F .bf16) → Prog (TpuEff nD τ sig (Elt F) Λ₀ .tc) α} :
    holds c (b.slice (slotR k) (fun _ => rfl)) X
      ⊢ iprop((holds c (b.slice (slotR k) (fun _ => rfl)) X -∗ wp frame (wpE (defs₀ (F := F)) 𝒱₀ (c : Thread nD τ) none) Set.univ (cont X) Q)
          -∗ wp frame (wpE (defs₀ (F := F)) 𝒱₀ (c : Thread nD τ) none) Set.univ (.op (.load b (slotR k).toLoadRect hl) cont) Q) := by
  unfold holds owns
  iintro ⟨%f, %hf, H⟩ Hk
  subst hf
  iapply (wp_load_rect 𝒱₀ (c : Thread nD τ) none Set.univ (m := b) (r := slotR k) (S := (b.slice (slotR k) (fun _ => rfl)).view.set) (f := f) (Finset.Subset.refl _)) $$ H
  iintro H
  iapply Hk
  iexists f
  isplitr; · ipureintro; rfl
  iexact H

/-- Storing `w` over a slot leaves it held at `w`. -/
theorem store_slot (c : Dev nD) (b : Memref sig .tc .vmem S3x256x1024 .bf16) (k : Fin 3) (X w : S1x256x1024.Idx → Elt F .bf16)
    {hx : (b.access (slotR k)).Stores Finset.univ} {hm : (Finset.univ : Finset S1x256x1024.Idx) = Finset.univ ∨ ∀ a, (slotR k).stride a = 1}
    {α : Type} {Q : α → sProp 𝕄} {cont : PUnit → Prog (TpuEff nD τ sig (Elt F) Λ₀ .tc) α} :
    holds c (b.slice (slotR k) (fun _ => rfl)) X
      ⊢ iprop((holds c (b.slice (slotR k) (fun _ => rfl)) w -∗ wp frame (wpE (defs₀ (F := F)) 𝒱₀ (c : Thread nD τ) none) Set.univ (cont ⟨⟩) Q)
          -∗ wp frame (wpE (defs₀ (F := F)) 𝒱₀ (c : Thread nD τ) none) Set.univ (.op (.store b (slotR k) w Finset.univ hx hm) cont) Q) := by
  unfold holds owns
  iintro ⟨%f, %hf, H⟩ Hk
  iapply (wp_store 𝒱₀ (c : Thread nD τ) none Set.univ (m := b) (r := slotR k) (w := w) (Mk := Finset.univ)
    (S := (b.slice (slotR k) (fun _ => rfl)).view.set) (f := f) (hm := hm) (Finset.Subset.refl _)) $$ H
  iintro H
  iapply Hk
  iexists ((b.access (slotR k)).write (Elt F) f w Finset.univ)
  isplitr; · ipureintro; exact View.read_write_univ f w
  iexact H

/-- Sending slot `k` to the device `k + 1` ahead: the send slot at its contents and the receiver's slot are given
    up, one landing less is owed, and the read-out may be waited for. -/
theorem send_slot (k : Fin 3) (c n : Dev nD) (hn : n = fwd k c) (κ₁ κ₂ : ℕ) {hsc : (recvFlat k : Memref sig (Dev.tc n : Thread nD τ).2.kind .vmem S256x1024 .bf16).view.ref.isScScratch = false}
    {hsrc : (sendFlat k).view.WordExact} {hdst : (recvFlat k).view.WordExact}
    {hsem : DmaTarget.Typed .vmem (.dma (vS k)) (.remote (Dev.tc n : Thread nD τ) (recvFlat k) (.dma (sS k)) hsc)}
    {α : Type} {Q : α → sProp 𝕄} {cont : PUnit → Prog (TpuEff nD τ sig (Elt F) Λ₀ .tc) α}
    (Y : S1x256x1024.Idx → Elt F .bf16) (O : CellTallies nD τ sig Unit) (O' : CellTallies nD τ sig Unit) (hO : O' = O + tallyAt (vCell k (fwd k c)) () N) (W : Waits sig Unit) :
    iprop(cellInv ER (exch m) κ₁ (sCell k c) ∗ cellInv ER (exch m) κ₂ (vCell k (fwd k c))
        ∗ holds c (sendSlot k) (slab m c k) ∗ holds (fwd k c) (recvSlot k) Y ∗ owes (c : Thread nD τ) O' W
        ∗ dutyTok ER (sCell k c) 0 0 ∗ reached ER (sCell k c) 0 ∗ dutyTok ER (vCell k (fwd k c)) 0 0 ∗ reached ER (vCell k (fwd k c)) 0)
      ⊢ iprop(((cred (tallyAt (sCell k c) () N) ∗ owes (c : Thread nD τ) O W) -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (sendFlat k) (.remote (Dev.tc n : Thread nD τ) (recvFlat k) (.dma (sS k)) hsc) (.dma (vS k)) hsrc hdst hsem) cont) Q) := by
  subst hn
  have hcred : (recvFlat k).view.dmaCredit = N := by fin_cases k <;> rfl
  unfold holds owns
  iintro ⟨#HI1, #HI2, ⟨%fs, %hfs, Hs⟩, ⟨%fd, %hfd, Hd⟩, HO, Ht1, #Hr1, Ht2, #Hr2⟩ Hk
  have hset1 : (sendFlat k).view.set = (sendSlot k).view.set := View.set_reshape _ _
  have hset2 : (recvFlat k).view.set = (recvSlot k).view.set := View.set_reshape _ _
  iapply (Rounds.wp_send_pointsTo 𝒱₀ ER (exch m) (c : Thread nD τ) none (κ₁ := κ₁) (κ₂ := κ₂)
    (r₁ := 0) (r₂ := 0) (d₁ := 0) (d₂ := 0) (fd := fd) (fs := fs) (q := fullShare)
    (by rw [duties_xfer m c (role_s k)]; exact Finset.mem_singleton_self _)
    (by rw [duties_xfer m (fwd k c) (role_v k)]; exact Finset.mem_singleton_self _)
    () () N (show (recvFlat k).view.amount (.dma (vS k)) = N from hcred) (amount_xfer m c (sS k) 0) (amount_xfer m (fwd k c) (vS k) 0) O hO (W := W)
    (by
      rw [payload_xfer m c (role_s k), xfer_read]; unfold holds owns
      iintro H; iexists fs
      isplitr; · ipureintro; exact hfs
      rw [← hset1]; iexact H)
    (by
      rw [payload_xfer m (fwd k c) (role_v k), xfer_landed, bwd_fwd]
      unfold holds owns
      iintro H; iexists ((recvFlat k).view.write (Elt F) fd ((sendFlat k).view.read (Elt F) fs) Finset.univ)
      isplitr; · ipureintro; exact (land k fd fs).trans hfs
      rw [← hset2]; iexact H)) $$ [Hs Hd HO Ht1 Ht2]
  · isplitr; · iexact HI1
    isplitr; · iexact HI2
    isplitl [Hs]; · rw [hset1]; iexact Hs
    isplitl [Hd]; · rw [hset2]; iexact Hd
    isplitl [HO]; · iexact HO
    isplitl [Ht1]; · iexact Ht1
    isplitr; · iexact Hr1
    isplitl [Ht2]; · iexact Ht2
    iexact Hr2
  iexact Hk

/-- Waiting on a transfer semaphore, owing nothing, gives what completed. -/
theorem wait_slot (c : Dev nD) (q : DmaSem sig) (p : Bool × Fin 3) (hq : role (.dma q) = some p) (κ : ℕ) (W : Waits sig Unit)
    {src dst : Memref sig .tc .vmem S256x1024 .bf16} {hsrc : src.view.WordExact} {hdst : dst.view.WordExact} (hN : dst.view.dmaCredit = N)
    {α : Type} {Q : α → sProp 𝕄} {cont : PUnit → Prog (TpuEff nD τ sig (Elt F) Λ₀ .tc) α} :
    iprop(cellInv ER (exch m) κ ((c : Thread nD τ), .dma q) ∗ cred (tallyAt ((c : Thread nD τ), SemLoc.dma q) () N) ∗ owes (c : Thread nD τ) 0 W
        ∗ atPos ER ((c : Thread nD τ), .dma q) 0 ∅ 0)
      ⊢ iprop(((owes (c : Thread nD τ) 0 (insert (SemLoc.dma q, ()) W) ∗ semVal ((c : Thread nD τ), .dma q) 0
            ∗ xferPay m c p) -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 q src dst hsrc hdst) cont) Q) := by
  iintro ⟨#HI, Hc, HO, Hat⟩ Hk
  iapply (Rounds.wp_wait_rest_token 𝒱₀ ER (exch m) (c : Thread nD τ) none (κ := κ)
      (wpE_waitDma2_eq 𝒱₀ (c : Thread nD τ) none Set.univ) (Set.mem_univ _) () (O := 0) (W := W) (R := 0) (m := 0) (T := ∅)
      (by rw [Nat.zero_add, hN, expect_xfer m c hq])) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (exch m) (Set.mem_univ κ) (fun h => h) (R := 0 + 1) (duties_later m ((c : Thread nD τ), .dma q))) $$ [Hat] with Hz
  · isplitr; · iexact HI
    iexact Hat
  iapply Hk
  isplitl [HO]; · iexact HO
  isplitl [Hz]; · iexact Hz
  iapply (Entails.of_eq (rest_xfer m c hq)); iexact Hpay

/-- Signalling the barrier of the device `k + 1` back hands over this device's receive slot `k`. -/
theorem signal_slot (k : Fin 3) (c n : Dev nD) (hn : n = bwd k c) (κ : ℕ) (X : S1x256x1024.Idx → Elt F .bf16)
    (O O' : CellTallies nD τ sig Unit) (hO : O' = O + tallyAt (barCell (bwd k c)) () 1) (W : Waits sig Unit)
    {α : Type} {Q : α → sProp 𝕄} {cont : PUnit → Prog (TpuEff nD τ sig (Elt F) Λ₀ .tc) α} :
    iprop(cellInv ER (exch m) κ (barCell (bwd k c)) ∗ owes (c : Thread nD τ) O' W ∗ dutyTok ER (barCell (bwd k c)) 0 k
        ∗ holds c (recvSlot k) X ∗ reached ER (barCell (bwd k c)) 0)
      ⊢ iprop((owes (c : Thread nD τ) O W -∗ wp frame (wpE (defs₀ (F := F)) 𝒱₀ (c : Thread nD τ) none) Set.univ (cont ⟨⟩) Q)
          -∗ wp frame (wpE (defs₀ (F := F)) 𝒱₀ (c : Thread nD τ) none) Set.univ
              (.op (.semSignal (Dev.tc n : Thread nD τ) barS (1#32).toNat) cont) Q) := by
  subst hn
  iintro ⟨#HI, HO, Ht, H, #Hr⟩ Hk
  iapply (Rounds.wp_signal 𝒱₀ ER (exch m) (c : Thread nD τ) none (dst := (bwd k c : Thread nD τ)) (κ := κ)
      (d := k) (by rw [duties_bar]; exact Finset.mem_univ _) ((amount_bar m (bwd k c) k).trans (by decide)) () O hO)
    $$ [HO Ht H]
  · isplitr; · iexact HI
    isplitl [HO]; · iexact HO
    isplitl [Ht]; · iexact Ht
    isplitl [H]
    · rw [payload_bar]; unfold barPay; rw [fwd_bwd]
      iexists X; iexact H
    · iexact Hr
  iexact Hk

end Cert.KernelIdeal.Exchange

end
-- ==== Proof.Ideal.Body.lean ====
/-
# The body

The kernel's body on any device, from what it starts with to what it leaves: signals, barrier, mask, three parts
computed and sent, own part, three parts received and added.
-/
module

public import proofs.«01_k».proof.Proof.Ideal.Slots

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- Owning a whole buffer is its points-to at those contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [View.set_whole]; rfl

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- A scratch buffer at some contents. -/
abbrev scr (c : Dev nD) (b : Ref sig .tc) : sProp 𝕄 := iprop(∃ f : Buf (Elt F) ((c : Thread nD τ).loc b), ((c : Thread nD τ).loc b) ↦{fullShare} f)

/-- What the body is run from. -/
def bodyPre (K : Dev nD × Fin 7 → ℕ) (c : Dev nD) : sProp 𝕄 :=
  iprop((ghost m K c ∗ cred (tallyAt (barCell c) () 3) ∗ (bigSep Finset.univ fun k : Fin 3 => cred (tallyAt (vCell k c) () N)) ∗ levAts L lv)
    ∗ (scr c cc0_scratch0 ∗ scr c cc0_scratch1 ∗ scr c cc0_scratch2)
    ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

/-- What it is run to. -/
def bodyPost (c : Dev nD) : sProp 𝕄 :=
  iprop(Φ₁ c ∗ (dats m 0 c).owesAt () t0_0.succ ∗ stg c cc0_stg0_0 (xAt m c) ∗ stg c cc0_stg1_0 (idxAt m c) ∗ stg c cc0_stg2_0 (wAt m c)
    ∗ stg c cc0_stg3_0 (outAt m c))

omit [FloatOps F] in
/-- The zero offset of a matrix. -/
theorem hz2 : (![0, 0] : Fin 2 → Nat) = fun _ => 0 := funext fun a => by fin_cases a <;> rfl
omit [FloatOps F] in
/-- The zero offset of a three-axis array. -/
theorem hz3 : (![0, 0, 0] : Fin 3 → Nat) = fun _ => 0 := funext fun a => by fin_cases a <;> rfl

/-- Reading the route indices whole. -/
theorem read_idx (f : (cc0_stg1_0 : Ref sig .tc).ty.Contents (Elt F)) :
    idxM.view.readAt (Elt F) (Rect.unit (s := S1024x1) ![0, 0] S1024x1.size inb_S1024x1_S1024x1_0_0).toLoadRect f = f :=
  Memref.readAt_unit_zero (Elt F) cc0_stg1_0 hz2 _ f
/-- Reading the experts whole. -/
theorem read_w (f : (cc0_stg2_0 : Ref sig .tc).ty.Contents (Elt F)) :
    wM.view.readAt (Elt F) (Rect.unit (s := S4x512x1024) ![0, 0, 0] S4x512x1024.size inb_S4x512x1024_S4x512x1024_0_0_0).toLoadRect f = f :=
  Memref.readAt_unit_zero (Elt F) cc0_stg2_0 hz3 _ f
/-- Storing the mask whole. -/
theorem write_mask (f w : (cc0_scratch0 : Ref sig .tc).ty.Contents (Elt F)) :
    (maskM.access (Rect.unit (s := S1024x4) ![0, 0] S1024x4.size inb_S1024x4_S1024x4_0_0)).write (Elt F) f w Finset.univ = w :=
  Memref.write_access_unit_zero_univ (Elt F) cc0_scratch0 hz2 _ f w
/-- Storing the result block whole. -/
theorem write_out (f w : (cc0_stg3_0 : Ref sig .tc).ty.Contents (Elt F)) :
    (outM.access (Rect.unit (s := S256x1024) ![0, 0] S256x1024.size inb_S256x1024_S256x1024_0_0)).write (Elt F) f w Finset.univ = w :=
  Memref.write_access_unit_zero_univ (Elt F) cc0_stg3_0 hz2 _ f w

set_option maxHeartbeats 4000000 in
/-- The body, one rule per operation in program order. -/
theorem sound_body (K : Dev nD × Fin 7 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, Prog.bind_assoc, wp_deviceId]
  simp only [send_at0, send_at1, send_at2, recv_at0, recv_at1, recv_at2]
  unfold bodyPre ghost places payToks
  simp only [bigSep_cells, bigSep_slots]
  iintro ⟨⟨⟨⟨#Hrec, ⟨HatB, HatS0, HatS1, HatS2, HatV0, HatV1, HatV2⟩, ⟨HtB0, HtB1, HtB2⟩, ⟨HtV0, HtV1, HtV2⟩, HtS0, HtS1, HtS2⟩, HcB, ⟨HcV0, HcV1, HcV2⟩, #Hlev⟩,
    ⟨⟨%fm, Hm⟩, ⟨%fs, Hs⟩, ⟨%fr, Hr⟩⟩, Ho, ⟨%d0, %g0, %hg0, Hx⟩, ⟨%d1, %g1, %hg1, Hi⟩, ⟨%d2, %g2, %hg2, Hw⟩, ⟨%d3, %g3, %hg3, Hout⟩⟩, Hk⟩
  have hx : g0 = xAt m c := by rw [hg0]; unfold Dat.before; rw [if_pos (fetch0_0 t0_0)]; rfl
  have hi : g1 = idxAt m c := by rw [hg1]; unfold Dat.before; rw [if_pos (fetch0_1 t0_0)]; rfl
  have hw : g2 = wAt m c := by rw [hg2]; unfold Dat.before; rw [if_pos (fetch0_2 t0_0)]; rfl
  subst hx hi hw
  -- the two exchange buffers, slot by slot
  ihave Hs' := (Entails.of_eq (owns_whole_eq c cc0_scratch1 fs).symm) $$ [Hs]
  · iexists fs; isplitr; · (ipureintro; rfl)
    iexact Hs
  ihave Hs'' := (split_slots c sendM fs) $$ Hs'
  ihave Hs3 := (Entails.of_eq (bigSep_slots _)) $$ Hs''
  icases Hs3 with ⟨⟨%Y0, Hs0⟩, ⟨%Y1, Hs1⟩, ⟨%Y2, Hs2⟩⟩
  ihave Hr' := (Entails.of_eq (owns_whole_eq c cc0_scratch2 fr).symm) $$ [Hr]
  · iexists fr; isplitr; · (ipureintro; rfl)
    iexact Hr
  ihave Hr'' := (split_slots c recvM fr) $$ Hr'
  ihave Hr3 := (Entails.of_eq (bigSep_slots _)) $$ Hr''
  icases Hr3 with ⟨⟨%X0, Hr0⟩, ⟨%X1, Hr1⟩, ⟨%X2, Hr2⟩⟩
  unfold Dat.owesAt Pipeline.owesWithin
  icases Ho with ⟨%W, %hW, HO⟩
  rw [show (dats m 0 c).owed t0_0.castSucc = O₀ c from rfl]
  -- the three signals
  unfold O₀
  iapply (signal_slot m 2 c _ (sig1_eq c) (K (bwd 2 c, 0)) X2 (B1 c) _ rfl W) $$ [HO HtB2 Hr2]
  · isplitr; · iapply (inv_of m K (bwd 2 c, 0)); iexact Hrec
    isplitl [HO]; · iexact HO
    isplitl [HtB2]; · iexact HtB2
    isplitl [Hr2]; · iexact Hr2
    iapply (reached_of m K (bwd 2 c, 0)); iexact Hrec
  iintro HO
  unfold B1
  iapply (signal_slot m 1 c _ (sig2_eq c) (K (bwd 1 c, 0)) X1 (B2 c) _ rfl W) $$ [HO HtB1 Hr1]
  · isplitr; · iapply (inv_of m K (bwd 1 c, 0)); iexact Hrec
    isplitl [HO]; · iexact HO
    isplitl [HtB1]; · iexact HtB1
    isplitl [Hr1]; · iexact Hr1
    iapply (reached_of m K (bwd 1 c, 0)); iexact Hrec
  iintro HO
  unfold B2
  iapply (signal_slot m 0 c _ (sig3_eq c) (K (bwd 0 c, 0)) X0 (D0 c) _ rfl W) $$ [HO HtB0 Hr0]
  · isplitr; · iapply (inv_of m K (bwd 0 c, 0)); iexact Hrec
    isplitl [HO]; · iexact HO
    isplitl [HtB0]; · iexact HtB0
    isplitl [Hr0]; · iexact Hr0
    iapply (reached_of m K (bwd 0 c, 0)); iexact Hrec
  iintro HO
  -- the barrier: the three slots to be written, on the other devices
  iapply (Rounds.wp_wait_rest_token 𝒱₀ ER (exch m) (c : Thread nD τ) none (κ := K (c, 0))
      (wpE_semWait_eq 𝒱₀ (c : Thread nD τ) none Set.univ) (Set.mem_univ _) () (O := D0 c) (W := W) (R := 0) (m := 0) (T := ∅)
      (by rw [expect_bar]; decide)) $$ [HcB HO HatB]
  · isplitr; · iapply (inv_of m K (c, 0)); iexact Hrec
    isplitl [HcB]; · iexact HcB
    isplitl [HO]; · iexact HO
    isplitr; · iapply (mayWait_bar c); iexact Hlev
    iexact HatB
  iintro ⟨HO, HatB, -, Hpay⟩
  imod (Rounds.cell_close ER (exch m) (Set.mem_univ (K (c, 0))) (fun h => h) (R := 0 + 1) (duties_later m (barCell c))) $$ [HatB] with HzB
  · isplitr; · iapply (inv_of m K (c, 0)); iexact Hrec
    iexact HatB
  ihave Hp2 := (Entails.of_eq (rest_bar m c)) $$ Hpay
  unfold barPay
  icases Hp2 with ⟨⟨%Z0, Hr0⟩, ⟨%Z1, Hr1⟩, ⟨%Z2, Hr2⟩⟩
  -- the mask
  iapply (wp_load 𝒱₀ (c : Thread nD τ) none Set.univ (m := idxM) (Finset.subset_univ _)) $$ Hi; iintro Hi
  rw [read_idx]
  iapply (wp_load 𝒱₀ (c : Thread nD τ) none Set.univ (m := maskM) (Finset.subset_univ _)) $$ Hm; iintro Hm
  iapply (wp_store 𝒱₀ (c : Thread nD τ) none Set.univ (m := maskM) (r := Rect.unit (s := S1024x4) ![0, 0] S1024x4.size inb_S1024x4_S1024x4_0_0)
    (Mk := Finset.univ) (Finset.subset_univ _)) $$ Hm; iintro Hm
  rw [write_mask]
  -- the experts
  iapply (wp_load 𝒱₀ (c : Thread nD τ) none Set.univ (m := wM) (Finset.subset_univ _)) $$ Hw; iintro Hw
  rw [read_w]
  unfold D0
  -- slot 0: the rows loaded, the part stored, the copy started
  iapply (wp_load 𝒱₀ (c : Thread nD τ) none Set.univ (m := xM) (Finset.subset_univ _)) $$ Hx; iintro Hx
  iapply (wp_load 𝒱₀ (c : Thread nD τ) none Set.univ (m := maskM) (Finset.subset_univ _)) $$ Hm; iintro Hm
  iapply (load_slot c sendM 0 Y0) $$ Hs0; iintro Hs0
  iapply (store_slot c sendM 0 Y0 (slab m c 0)) $$ Hs0; iintro Hs0
  iapply (send_slot m 0 c _ (send0_eq c) (K (c, 1)) (K (fwd 0 c, 4)) Z0 (D1 c) _ rfl _) $$ [Hs0 Hr0 HO HtS0 HtV0]
  · isplitr; · iapply (inv_of m K (c, 1)); iexact Hrec
    isplitr; · iapply (inv_of m K (fwd 0 c, 4)); iexact Hrec
    isplitl [Hs0]; · iexact Hs0
    isplitl [Hr0]; · iexact Hr0
    isplitl [HO]; · iexact HO
    isplitl [HtS0]; · iexact HtS0
    isplitr; · iapply (reached_of m K (c, 1)); iexact Hrec
    isplitl [HtV0]; · iexact HtV0
    iapply (reached_of m K (fwd 0 c, 4)); iexact Hrec
  iintro ⟨HcS0, HO⟩
  unfold D1
  -- slot 1: the rows loaded, the part stored, the copy started
  iapply (wp_load 𝒱₀ (c : Thread nD τ) none Set.univ (m := xM) (Finset.subset_univ _)) $$ Hx; iintro Hx
  iapply (wp_load 𝒱₀ (c : Thread nD τ) none Set.univ (m := maskM) (Finset.subset_univ _)) $$ Hm; iintro Hm
  iapply (load_slot c sendM 1 Y1) $$ Hs1; iintro Hs1
  iapply (store_slot c sendM 1 Y1 (slab m c 1)) $$ Hs1; iintro Hs1
  iapply (send_slot m 1 c _ (send1_eq c) (K (c, 2)) (K (fwd 1 c, 5)) Z1 (D2 c) _ rfl _) $$ [Hs1 Hr1 HO HtS1 HtV1]
  · isplitr; · iapply (inv_of m K (c, 2)); iexact Hrec
    isplitr; · iapply (inv_of m K (fwd 1 c, 5)); iexact Hrec
    isplitl [Hs1]; · iexact Hs1
    isplitl [Hr1]; · iexact Hr1
    isplitl [HO]; · iexact HO
    isplitl [HtS1]; · iexact HtS1
    isplitr; · iapply (reached_of m K (c, 2)); iexact Hrec
    isplitl [HtV1]; · iexact HtV1
    iapply (reached_of m K (fwd 1 c, 5)); iexact Hrec
  iintro ⟨HcS1, HO⟩
  -- slot 2: the rows loaded, the part stored, the copy started
  iapply (wp_load 𝒱₀ (c : Thread nD τ) none Set.univ (m := xM) (Finset.subset_univ _)) $$ Hx; iintro Hx
  iapply (wp_load 𝒱₀ (c : Thread nD τ) none Set.univ (m := maskM) (Finset.subset_univ _)) $$ Hm; iintro Hm
  iapply (load_slot c sendM 2 Y2) $$ Hs2; iintro Hs2
  iapply (store_slot c sendM 2 Y2 (slab m c 2)) $$ Hs2; iintro Hs2
  iapply (send_slot m 2 c _ (send2_eq c) (K (c, 3)) (K (fwd 2 c, 6)) Z2 0 (D2 c) (by unfold D2; rw [zero_add]) _) $$ [Hs2 Hr2 HO HtS2 HtV2]
  · isplitr; · iapply (inv_of m K (c, 3)); iexact Hrec
    isplitr; · iapply (inv_of m K (fwd 2 c, 6)); iexact Hrec
    isplitl [Hs2]; · iexact Hs2
    isplitl [Hr2]; · iexact Hr2
    isplitl [HO]; · iexact HO
    isplitl [HtS2]; · iexact HtS2
    isplitr; · iapply (reached_of m K (c, 3)); iexact Hrec
    isplitl [HtV2]; · iexact HtV2
    iapply (reached_of m K (fwd 2 c, 6)); iexact Hrec
  iintro ⟨HcS2, HO⟩
  -- the device's own rows
  iapply (wp_load 𝒱₀ (c : Thread nD τ) none Set.univ (m := xM) (Finset.subset_univ _)) $$ Hx; iintro Hx
  iapply (wp_load 𝒱₀ (c : Thread nD τ) none Set.univ (m := maskM) (Finset.subset_univ _)) $$ Hm; iintro Hm
  -- the three parts received
  iapply (wait_slot m c (vS 0) (false, 0) (role_v 0) (K (c, 4)) _ (src := sendFlat 0) (dst := recvFlat 0) rfl) $$ [HcV0 HO HatV0]
  · isplitr; · iapply (inv_of m K (c, 4)); iexact Hrec
    isplitl [HcV0]; · iexact HcV0
    isplitl [HO]; · iexact HO
    iexact HatV0
  iintro ⟨HO, HzV0, Hq⟩
  ihave Hr0 := (Entails.of_eq (xfer_landed m c 0)) $$ Hq
  iapply (load_slot c recvM 0 (slab m (bwd 0 c) 0)) $$ Hr0; iintro Hr0
  iapply (wait_slot m c (vS 1) (false, 1) (role_v 1) (K (c, 5)) _ (src := sendFlat 1) (dst := recvFlat 1) rfl) $$ [HcV1 HO HatV1]
  · isplitr; · iapply (inv_of m K (c, 5)); iexact Hrec
    isplitl [HcV1]; · iexact HcV1
    isplitl [HO]; · iexact HO
    iexact HatV1
  iintro ⟨HO, HzV1, Hq⟩
  ihave Hr1 := (Entails.of_eq (xfer_landed m c 1)) $$ Hq
  iapply (load_slot c recvM 1 (slab m (bwd 1 c) 1)) $$ Hr1; iintro Hr1
  iapply (wait_slot m c (vS 2) (false, 2) (role_v 2) (K (c, 6)) _ (src := sendFlat 2) (dst := recvFlat 2) rfl) $$ [HcV2 HO HatV2]
  · isplitr; · iapply (inv_of m K (c, 6)); iexact Hrec
    isplitl [HcV2]; · iexact HcV2
    isplitl [HO]; · iexact HO
    iexact HatV2
  iintro ⟨HO, HzV2, Hq⟩
  ihave Hr2 := (Entails.of_eq (xfer_landed m c 2)) $$ Hq
  iapply (load_slot c recvM 2 (slab m (bwd 2 c) 2)) $$ Hr2; iintro Hr2
  iapply (wp_load 𝒱₀ (c : Thread nD τ) none Set.univ (m := outM) (Finset.subset_univ _)) $$ Hout; iintro Hout
  iapply (wp_store 𝒱₀ (c : Thread nD τ) none Set.univ (m := outM) (r := Rect.unit (s := S256x1024) ![0, 0] S256x1024.size inb_S256x1024_S256x1024_0_0)
    (Mk := Finset.univ) (Finset.subset_univ _)) $$ Hout; iintro Hout
  rw [write_out]
  -- the three slots sent, back
  iapply (wait_slot m c (sS 0) (true, 0) (role_s 0) (K (c, 1)) _ (src := recvFlat 0) (dst := sendFlat 0) rfl) $$ [HcS0 HO HatS0]
  · isplitr; · iapply (inv_of m K (c, 1)); iexact Hrec
    isplitl [HcS0]; · iexact HcS0
    isplitl [HO]; · iexact HO
    iexact HatS0
  iintro ⟨HO, HzS0, Hq⟩
  ihave Hs0 := (Entails.of_eq (xfer_read m c 0)) $$ Hq
  iapply (wait_slot m c (sS 1) (true, 1) (role_s 1) (K (c, 2)) _ (src := recvFlat 1) (dst := sendFlat 1) rfl) $$ [HcS1 HO HatS1]
  · isplitr; · iapply (inv_of m K (c, 2)); iexact Hrec
    isplitl [HcS1]; · iexact HcS1
    isplitl [HO]; · iexact HO
    iexact HatS1
  iintro ⟨HO, HzS1, Hq⟩
  ihave Hs1 := (Entails.of_eq (xfer_read m c 1)) $$ Hq
  iapply (wait_slot m c (sS 2) (true, 2) (role_s 2) (K (c, 3)) _ (src := recvFlat 2) (dst := sendFlat 2) rfl) $$ [HcS2 HO HatS2]
  · isplitr; · iapply (inv_of m K (c, 3)); iexact Hrec
    isplitl [HcS2]; · iexact HcS2
    isplitl [HO]; · iexact HO
    iexact HatS2
  iintro ⟨HO, HzS2, Hq⟩
  ihave Hs2 := (Entails.of_eq (xfer_read m c 2)) $$ Hq
  -- the exchange buffers whole again
  ihave Hs' := (join_slots c sendM (slab m c)) $$ [Hs0 Hs1 Hs2]
  · rw [bigSep_slots]
    isplitl [Hs0]; · iexact Hs0
    isplitl [Hs1]; · iexact Hs1
    iexact Hs2
  icases Hs' with ⟨%Ys, Hs'⟩
  ihave Hs := (Entails.of_eq (owns_whole_eq c cc0_scratch1 Ys)) $$ Hs'
  icases Hs with ⟨%fs', -, Hs⟩
  ihave Hr' := (join_slots c recvM (fun k => slab m (bwd k c) k)) $$ [Hr0 Hr1 Hr2]
  · rw [bigSep_slots]
    isplitl [Hr0]; · iexact Hr0
    isplitl [Hr1]; · iexact Hr1
    iexact Hr2
  icases Hr' with ⟨%Yr, Hr'⟩
  ihave Hr := (Entails.of_eq (owns_whole_eq c cc0_scratch2 Yr)) $$ Hr'
  icases Hr with ⟨%fr', -, Hr⟩
  rw [wp_ret]; imodintro
  iapply Hk
  unfold bodyPost Φ₁ Dat.owesAt Pipeline.owesWithin
  rw [show (dats m 0 c).owed t0_0.succ = 0 from rfl, bigSep_cells]
  isplitl [Hm Hs Hr HzB HzS0 HzS1 HzS2 HzV0 HzV1 HzV2]
  · isplitl [HzB HzS0 HzS1 HzS2 HzV0 HzV1 HzV2]
    · isplitl [HzB]; · iexact HzB
      isplitl [HzS0]; · iexact HzS0
      isplitl [HzS1]; · iexact HzS1
      isplitl [HzS2]; · iexact HzS2
      isplitl [HzV0]; · iexact HzV0
      isplitl [HzV1]; · iexact HzV1
      iexact HzV2
    · iapply (Entails.of_eq (scopedRest0_eq (Val := Elt F) c).symm)
      isplitl [Hm]; · iexists _; iexact Hm
      isplitl [Hs]; · iexists fs'; iexact Hs
      iexists fr'; iexact Hr
  isplitl [HO]
  · iexists (insert (SemLoc.dma (sS 2), ()) (insert (SemLoc.dma (sS 1), ()) (insert (SemLoc.dma (sS 0), ()) (insert (SemLoc.dma (vS 2), ())
      (insert (SemLoc.dma (vS 1), ()) (insert (SemLoc.dma (vS 0), ()) (insert (SemLoc.reg barS, ()) W)))))))
    isplitr; · ipureintro; exact fun _ _ => Or.inl trivial
    iexact HO
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr; · (ipureintro; rfl)
  iexact Hout

/-- What the pipeline runs the body from. -/
def bodyPre' (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

/-- The body meets the pipeline's obligation at its one point. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) (fun _ => bodyPost m c)
  unfold bodyPre' Φ₀ start
  iintro ⟨⟨⟨⟨%K, Hg⟩, HcB, HcV, Hlev⟩, Hsc⟩, Ho, Hx, Hi, Hw, Hout⟩
  iapply (sound_body m K c fun _ => bodyPost m c)
  unfold bodyPre
  isplitr []
  · isplitl [Hg HcB HcV Hlev]
    · isplitl [Hg]; · iexact Hg
      isplitl [HcB]; · iexact HcB
      isplitl [HcV]; · iexact HcV
      iexact Hlev
    isplitl [Hsc]
    · iapply (Entails.of_eq (scopedRest0_eq (Val := Elt F) c)); iexact Hsc
    isplitl [Ho]; · iexact Ho
    isplitl [Hx]; · iexact Hx
    isplitl [Hi]; · iexact Hi
    isplitl [Hw]; · iexact Hw
    iexact Hout
  · iintro H; iexact H

end Cert.KernelIdeal.Exchange

end
-- ==== Proof.Ideal.Launch.lean ====
/-
# The run

The exchange's ghost state made and dealt to the devices, and the pipeline's launch theorem applied: what every
final state of the four devices holds.
-/
module

public import proofs.«01_k».proof.Proof.Ideal.Body

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The exchange's ghost state, made and dealt -/

/-- The state the run starts from. -/
abbrev s₀ : MemSt nD τ sig (Elt F) := ⟨m, fun _ => 0, ρ⟩

/-- The kernel's own semaphores are six different ones, no window's. -/
theorem ownSemFacts : Pipeline.OwnSemFacts cfg0.spec osem := by decide
/-- Every window is held whole. -/
theorem share_eq (c : Dev nD) (w : Fin cfg0.W) : (dats m 0 c).share w = fullShare := by unfold Dat.share; split <;> rfl

/-- Different numbers are different semaphores. -/
theorem kcell_injective : Function.Injective (kcell : Dev nD × Fin 7 → GSem nD τ sig) := by
  rintro ⟨c, k⟩ ⟨c', k'⟩ h
  have h1 : c = c' := congrArg (fun g : GSem nD τ sig => g.1.1) h
  subst h1
  have h2 : csem k = csem k' := congrArg Prod.snd h
  have h3 : Function.Injective csem := by decide
  rw [h3 h2]

/-- All the scheduled semaphores. -/
def meshCells : Finset (GSem nD τ sig) := Finset.univ.map ⟨kcell, kcell_injective⟩

/-- The duties of a device's semaphores: three of the barrier, one of each send, one of each receive. -/
abbrev tokOf (cj : Dev nD × (Fin 3 × Fin 3)) : GSem nD τ sig × ℕ × Fin 3 := match cj.2 with
  | (0, k) => (barCell cj.1, 0, k) | (1, k) => (vCell k cj.1, 0, 0) | (2, k) => (sCell k cj.1, 0, 0)
/-- Different numbers are different duties. -/
theorem tokOf_injective : Function.Injective (tokOf : Dev nD × (Fin 3 × Fin 3) → GSem nD τ sig × ℕ × Fin 3) := by
  rintro ⟨c, j⟩ ⟨c', j'⟩ h
  have h1 : c = c' := by
    have h0 := congrArg (fun x : GSem nD τ sig × ℕ × Fin 3 => x.1.1.1) h
    rcases j with ⟨a, k⟩; rcases j' with ⟨a', k'⟩
    fin_cases a <;> fin_cases a' <;> exact h0
  subst h1
  have h2 : (fun j : Fin 3 × Fin 3 => ((tokOf (c, j)).1.2, (tokOf (c, j)).2.2)) j = (fun j => ((tokOf (c, j)).1.2, (tokOf (c, j)).2.2)) j' :=
    congrArg (fun x : GSem nD τ sig × ℕ × Fin 3 => (x.1.2, x.2.2)) h
  have h3 : ∀ c : Dev nD, Function.Injective fun j : Fin 3 × Fin 3 => ((tokOf (c, j)).1.2, (tokOf (c, j)).2.2) := by decide
  rw [h3 c h2]
/-- All the duties. -/
def meshToks : Finset (GSem nD τ sig × ℕ × Fin 3) := Finset.univ.map ⟨tokOf, tokOf_injective⟩

/-- The pipeline's ghost state and the exchange's. -/
def u₀ : UU := (initOf (Pipeline.cells cfgs cellOf_inj) (Pipeline.launchToks cfgs cellOf_inj), initOf meshCells meshToks)

/-- The duties of device `c`'s semaphores. -/
def toks (c : Dev nD) : sProp 𝕄 :=
  iprop((bigSep Finset.univ fun k : Fin 3 => dutyTok ER (barCell c) 0 k)
    ∗ (bigSep Finset.univ fun k : Fin 3 => dutyTok ER (vCell k c) 0 0)
    ∗ bigSep Finset.univ fun k : Fin 3 => dutyTok ER (sCell k c) 0 0)

/-- What a device is dealt first. -/
def G (c : Dev nD) : sProp 𝕄 :=
  iprop((bigSep Finset.univ fun k : Fin 7 => roundState ER (exch m) (kcell (c, k)) 0)
    ∗ (bigSep Finset.univ fun k : Fin 7 => iprop(atPos ER (kcell (c, k)) 0 ∅ 0 ∗ reached ER (kcell (c, k)) 0)) ∗ toks c)
/-- What it has after the deal across devices. -/
def G' (c : Dev nD) : sProp 𝕄 := iprop(∃ K, ghost m K c)

/-- The initial ghost state is every device's part. -/
theorem fund_mesh : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun k : Fin 7 => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks; rw [bigSep_map, bigSep_univ_prod]
    refine bigSep_congr fun c _ => ?_
    unfold toks; rw [bigSep_univ_prod, bigSep_slots]; rfl
  iintro HX
  imod (Rounds.fund ER (exch m) meshCells meshToks) $$ HX with ⟨Hst, Hr, Hat, Htok⟩
  imodintro
  ihave Hst' := (Entails.of_eq (hX fun g => roundState ER (exch m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The six scoped semaphores. -/
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0 ∗ semVal (kcell (c, 6)) 0) := by
  rw [Pipeline.ownSems0_eq_of_list c osem [0, 1, 2, 3, 4, 5] (by decide) (by decide)]; rfl
omit [FloatOps F] in
/-- The barrier is the one that outlives the kernel. -/
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

omit [FloatOps F] in
/-- All seven. -/
theorem sems0_eq (c : Dev nD) :
    (bigSep Finset.univ fun k : Fin 7 => semVal (kcell (c, k)) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, bigSep_cells]

/-- A device's seven semaphores put under the schedule. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (exch m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 7 => semVal (kcell (c, k)) 0) ∗ bigSep Finset.univ fun k : Fin 7 => roundState ER (exch m) (kcell (c, k)) 0)
      ⊢ (|={Set.univ}=> bigSep Finset.univ fun k => iprop(∃ κ : ℕ, cellInv ER (exch m) κ (kcell (c, k))) : sProp 𝕄) from by
        rw [← bigSep_sep']
        exact (bigSep_mono fun k _ => (Rounds.body_intro ER (exch m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- One family over devices and slots, turned slot by slot. -/
theorem turned (Φ : Fin 3 → Dev nD → sProp 𝕄) (e : Fin 3 → Dev nD ≃ Dev nD) :
    (bigSep Finset.univ fun c : Dev nD => bigSep Finset.univ fun k : Fin 3 => Φ k c)
      = bigSep Finset.univ fun c : Dev nD => bigSep Finset.univ fun k : Fin 3 => Φ k (e k c) := by
  rw [bigSep_congr fun c _ => bigSep_slots (fun k => Φ k c), bigSep_congr fun c _ => bigSep_slots (fun k => Φ k (e k c))]
  simp only [bigSep_sep']
  rw [bigSep_univ_equiv (e 0) (Φ 0), bigSep_univ_equiv (e 1) (Φ 1), bigSep_univ_equiv (e 2) (Φ 2)]

omit [FloatOps F] in
/-- Each duty to the device that performs it. -/
theorem toks_dealt : (bigSep Finset.univ fun c : Dev nD => (toks c : sProp 𝕄)) = bigSep Finset.univ fun c : Dev nD => payToks c := by
  unfold toks payToks
  rw [bigSep_sep', bigSep_sep', bigSep_sep', bigSep_sep',
    turned (fun k c => (dutyTok ER (barCell c) 0 k : sProp 𝕄)) (fun k => (turn k).symm),
    turned (fun k c => (dutyTok ER (vCell k c) 0 0 : sProp 𝕄)) turn]
  rfl

omit [FloatOps F] in
/-- Something persistent is every device's. -/
theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Its own part and the common records are what a device starts with. -/
theorem ghost_intro (K : Dev nD × Fin 7 → ℕ) (c : Dev nD) : iprop(records m K ∗ (places c ∗ payToks c)) ⊢ G' m c := by
  unfold G' ghost
  iintro ⟨#H, Ha, Ht⟩
  iexists K
  isplitr; · iexact H
  isplitl [Ha] <;> iassumption

/-- The deal across devices. -/
theorem regroup :
    (bigSep Finset.univ fun c : Dev nD => iprop((bigSep Finset.univ fun k => iprop(∃ κ : ℕ, cellInv ER (exch m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (exch m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄)), toks_dealt]
  iintro ⟨HI, ⟨Hat, #HR⟩, Htok⟩
  ihave HK := (BI.bigSep_exists_pi Finset.univ (fun (ck : Dev nD × Fin 7) (κ : ℕ) => (cellInv ER (exch m) κ (kcell ck) : sProp 𝕄))) $$ HI
  icases HK with ⟨%K, #HI⟩
  iapply (spread (R := records m K) fun c _ => ghost_intro m K c)
  isplitr
  · unfold records; isplitl; · iexact HI
    iexact HR
  · iapply (Entails.of_eq (bigSep_sep' Finset.univ (fun c : Dev nD => (places c : sProp 𝕄)) payToks).symm)
    isplitl [Hat]; · unfold places; iexact Hat
    iexact Htok

/-- Every device's semaphores under the schedule, every duty dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the devices may wait for at the start -/

omit [FloatOps F] in
/-- Semaphores of one number are equal when their devices are. -/
theorem cell_eq_iff {a b : Dev nD} {sm : SemLoc sig} : Iff ((((a : Thread nD τ), sm) : GSem nD τ sig) = ((b : Thread nD τ), sm)) (a = b) :=
  ⟨fun h => Fin.ext (congrArg (fun g : GSem nD τ sig => g.1.1.val) h), fun h => h ▸ rfl⟩

omit [FloatOps F] in
/-- What device `d` owes a semaphore, written out. -/
theorem owed_apply (d : Dev nD) (g : GSem nD τ sig) : O₀ d g ()
    = (((((if g = vCell 2 (fwd 2 d) then N else 0) + (if g = vCell 1 (fwd 1 d) then N else 0)) + (if g = vCell 0 (fwd 0 d) then N else 0))
        + (if g = barCell (bwd 0 d) then 1 else 0)) + (if g = barCell (bwd 1 d) then 1 else 0)) + (if g = barCell (bwd 2 d) then 1 else 0) := by
  unfold O₀ B1 B2 D0 D1 D2
  simp only [Pi.add_apply, Finsupp.add_apply, tallyAt_apply, and_true]

omit [FloatOps F] in
/-- A barrier is owed one signal by each of the devices one, two and three ahead of it. -/
theorem owed_bar (d c : Dev nD) : O₀ d (barCell c) () = ((if d = fwd 0 c then 1 else 0) + (if d = fwd 1 c then 1 else 0)) + (if d = fwd 2 c then 1 else 0) := by
  have h : ∀ k, (if barCell c = barCell (bwd k d) then 1 else 0) = if d = fwd k c then 1 else 0 := fun k => by
    by_cases hk : d = fwd k c
    · subst hk; rw [bwd_fwd, if_pos rfl, if_pos rfl]
    · rw [if_neg (fun h1 => hk (by rw [← fwd_bwd k d]; exact congrArg (fwd k) (cell_eq_iff.mp h1).symm)), if_neg hk]
  rw [owed_apply, h, h, h, if_neg (fun h => by cases h), if_neg (fun h => by cases h), if_neg (fun h => by cases h)]
  simp only [Nat.zero_add]

omit [FloatOps F] in
/-- Different slots have different receive semaphores. -/
theorem vCell_ne {k k' : Fin 3} (h : k ≠ k') (c d : Dev nD) : vCell k c ≠ vCell k' d := fun he =>
  have h1 : (SemLoc.dma (vS k) : SemLoc sig) = .dma (vS k') := congrArg Prod.snd he
  have h2 : ∀ k k' : Fin 3, (SemLoc.dma (vS k) : SemLoc sig) = .dma (vS k') → k = k' := by decide
  h (h2 k k' h1)

omit [FloatOps F] in
/-- A landing in slot `k` is owed by the device that fills it. -/
theorem owed_v (k : Fin 3) (d c : Dev nD) : O₀ d (vCell k c) () = if d = bwd k c then N else 0 := by
  have hb : ∀ k' : Fin 3, (if vCell k c = barCell (bwd k' d) then 1 else 0) = 0 := fun k' => if_neg fun h => by cases h
  have hv : ∀ k' : Fin 3, (if vCell k c = vCell k' (fwd k' d) then N else 0) = if k = k' then (if d = bwd k c then N else 0) else 0 := fun k' => by
    by_cases hk : k = k'
    · subst hk
      rw [if_pos rfl]
      by_cases hd : d = bwd k c
      · subst hd; rw [fwd_bwd, if_pos rfl, if_pos rfl]
      · rw [if_neg (fun h1 => hd (by rw [← bwd_fwd k d]; exact congrArg (bwd k) (cell_eq_iff.mp h1).symm)), if_neg hd]
    · rw [if_neg (vCell_ne hk c _), if_neg hk]
  rw [owed_apply, hb, hb, hb, hv, hv, hv]
  fin_cases k <;> simp

omit [FloatOps F] in
/-- Three signals will come to each barrier. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (fwd 0 c) fun _ => 1, Finset.sum_ite_eq' Finset.univ (fwd 1 c) fun _ => 1, Finset.sum_ite_eq' Finset.univ (fwd 2 c) fun _ => 1,
    if_pos (Finset.mem_univ _), if_pos (Finset.mem_univ _), if_pos (Finset.mem_univ _)]

omit [FloatOps F] in
/-- One landing will come to each slot. -/
theorem launch_v (k : Fin 3) (c : Dev nD) :
    tallyOn (vCell k c) (launchCredit (Pipeline.owing O₀) 0 (vCell k c)) = (tallyAt (vCell k c) () N : CellTallies nD τ sig Unit) := by
  unfold tallyAt; refine congrArg _ (Finsupp.ext fun u => ?_); cases u
  rw [Pipeline.launchCredit_owing, Finsupp.single_eq_same, Finset.sum_congr rfl fun d _ => owed_v k d c, Finset.sum_ite_eq' Finset.univ (bwd k c) fun _ => N,
    if_pos (Finset.mem_univ _)]

omit [FloatOps F] in
/-- So a device may wait for three signals and three landings. -/
theorem creds (c : Dev nD) :
    (Pipeline.launchCred O₀ c : sProp 𝕄) ⊢ iprop(cred (tallyAt (barCell c) () 3) ∗ bigSep Finset.univ fun k : Fin 3 => cred (tallyAt (vCell k c) () N)) := by
  unfold Pipeline.launchCred
  rw [bigSep_univ_at _ (SemLoc.reg barS), bigSep_slots, launch_bar, bigSep_erase (Finset.mem_erase.mpr ⟨(fun h => by cases h), Finset.mem_univ (SemLoc.dma (vS 0))⟩),
    bigSep_erase (Finset.mem_erase.mpr ⟨(by decide), Finset.mem_erase.mpr ⟨(fun h => by cases h), Finset.mem_univ (SemLoc.dma (vS 1))⟩⟩),
    bigSep_erase (Finset.mem_erase.mpr ⟨(by decide), Finset.mem_erase.mpr ⟨(by decide), Finset.mem_erase.mpr ⟨(fun h => by cases h), Finset.mem_univ (SemLoc.dma (vS 2))⟩⟩⟩),
    ← launch_v 0 c, ← launch_v 1 c, ← launch_v 2 c]
  exact sep_mono_right (sep_mono_right (sep_mono_right sep_elim_left))

/-! ## Into the kernel and out of it -/

/-- The operand that the kernel never touches. -/
abbrev aside (c : Dev nD) : sProp 𝕄 := (((c : Thread nD τ).loc main_arg1) ↦{fullShare} m ((c : Thread nD τ).loc main_arg1))

/-- What is left of the launch is what the kernel starts with, and the untouched operand. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ aside m c) := by
  rw [Pipeline.unscopedRestP_none, show cfg0.spec = spec0 from rfl, unscopedRest0_eq]
  iintro ⟨Ha, Hlev, Hcr, -, HG⟩
  ihave Hc := (creds (F := F) c) $$ Hcr
  icases Hc with ⟨H1, HN⟩
  imodintro
  unfold start G'
  isplitl [HG H1 HN Hlev]
  · isplitl [HG]; · iexact HG
    isplitl [H1]; · iexact H1
    isplitl [HN]; · iexact HN
    iexact Hlev
  · iexact Ha

/-- Into the kernel. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iexact Hr

/-- Out of it. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl]
  unfold Φ₁
  rw [sems0_eq]
  iintro ⟨⟨HB, Ho⟩, Hr⟩
  isplitl [HB]; · iexact HB
  isplitl [Ho]; · iexact Ho
  iexact Hr

/-- The pipeline's own waits are below everything owed. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m 0 c).arrAt w cfg0.N

/-- What is read off the final state. -/
def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1)

/-- From any memory with every semaphore at zero, every fair run of the four devices ends; then each window's array is
    what the pipeline's data say, the untouched operand is untouched, and every semaphore is at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_mesh m) $$ HX with HG
      imodintro
      isplitl [HP] <;> iassumption)
    (hglob := glob m)
    (hA := fun _ _ => rfl) (hpf := fun _ k => k.elim0)
    (X := start m) (Y := fun c => unscopedSems0 c) (Z := aside m)
    (hX := start_intro m ρ) (hin := phi0_intro m) (hout := phi1_exit m)
    (QY := fun c s => s.mem ((c : Thread nD τ).loc main_arg1) = m ((c : Thread nD τ).loc main_arg1) ∧ s.sem (barCell c) = 0)
    (hY := fun c s' => by
      rw [unscopedSems0_eq]
      iintro ⟨Hu, Ha, HSI⟩
      icombine HSI Ha gives %ha
      icombine HSI Hu gives %hu
      imodintro
      isplitr
      · ipureintro
        exact ⟨Buf.eq_of_forall_mem_univ ha, hu⟩
      iexact HSI)
    (hQ := fun s h hs => ⟨fun c => ⟨fun w => (h c).1 w, (h c).2.2.1⟩, sem_eq_zero hs fun c sm hsm => by
      obtain rfl : sm = SemLoc.reg barS := by revert sm; decide
      exact (h c).2.2.2⟩)

end Cert.KernelIdeal.Exchange

end
-- ==== Proof.Ideal.Final.lean ====
/-
# The run, read at the program's own arrays

After the run every device's result array holds its block, the arguments are as they were and every semaphore is at
zero. The staged operands are the arguments themselves: each window is its whole array.
-/
module

public import proofs.«01_k».proof.Proof.Ideal.Launch
public import Idealize.ShloMosaic.Lib.Pipeline.ValueKit.Geometry

@[expose] public section

set_option maxRecDepth 16384

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The staged tokens are the argument. -/
theorem xAt_eq (c : Dev nD) : xAt m c = m ((c : Thread nD τ).loc main_arg0) := by
  funext j
  unfold xAt
  have e : (win0_0.blk (0 : Fin 1)).view.emb j = j := by
    funext a
    refine Fin.ext ?_
    blk_simp
    rw [(by decide +kernel : ∀ a, win0_0.index (0 : Fin 1) a = 0) a, Nat.zero_mul, Nat.zero_add]
  exact congrArg (m ((c : Thread nD τ).loc main_arg0)) e

/-- The staged route indices are the argument. -/
theorem idxAt_eq (c : Dev nD) : idxAt m c = m ((c : Thread nD τ).loc main_arg2) := by
  funext j
  unfold idxAt
  have e : (win0_1.blk (0 : Fin 1)).view.emb j = j := by
    funext a
    refine Fin.ext ?_
    blk_simp
    rw [(by decide +kernel : ∀ a, win0_1.index (0 : Fin 1) a = 0) a, Nat.zero_mul, Nat.zero_add]
  exact congrArg (m ((c : Thread nD τ).loc main_arg2)) e

/-- The staged experts are the argument. -/
theorem wAt_eq (c : Dev nD) : wAt m c = m ((c : Thread nD τ).loc main_arg3) := by
  funext j
  unfold wAt
  have e : (win0_2.blk (0 : Fin 1)).view.emb j = j := by
    funext a
    refine Fin.ext ?_
    blk_simp
    rw [(by decide +kernel : ∀ a, win0_2.index (0 : Fin 1) a = 0) a, Nat.zero_mul, Nat.zero_add]
  exact congrArg (m ((c : Thread nD τ).loc main_arg3)) e

/-- The result array holds the block the device computed. -/
theorem finalA_out (c : Dev nD) : finalA m c 3 = outAt m c := by
  refine (dats m 0 c).arrAt_eq_of_after_last 3 ⟨0, by decide⟩ (by decide +kernel) _ (fun j => ?_)
  rfl

/-- The run at the program's arrays. -/
theorem run_values : θ_run defs (onTc (τ := τ) (main (F := F))) (s₀ m ρ) (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun _ h => ⟨fun c => ⟨((h.1 c).1 3).trans (finalA_out m c),
      ((h.1 c).1 0).trans ((dats m 0 c).arrAt_in 0 rfl _), (h.1 c).2,
      ((h.1 c).1 1).trans ((dats m 0 c).arrAt_in 1 rfl _),
      ((h.1 c).1 2).trans ((dats m 0 c).arrAt_in 2 rfl _)⟩, h.2⟩) (run_main m ρ)

end Cert.KernelIdeal.Exchange

end
-- ==== Proof.Value.Chunk.lean ====
/-
# One block of tokens through four experts

What a device computes of 256 tokens: the tokens, masked for each of its four experts and laid side by side, times the
experts' weights stacked. Read at an entry it is a sum over the four experts of masked products.
-/
module

public import proofs.«01_k».proof.Proof.Gen.KernelIdeal.Skeleton
public import Idealize.ShloMosaic.Lib.Pointwise

@[expose] public section

set_option maxRecDepth 16384

noncomputable section

namespace Cert.Value

open Cert.KernelIdeal Cert.KernelIdeal.Gen
open Idealize.ShloMosaic
open scoped BigOperators

/-- A block under a unit axis, read at an entry. -/
theorem shapeCast_drop_apply (v : S256x1024.Idx → EReal) (h : S256x1024.ShapeCasts S1x256x1024) (r : Fin 256) (o : Fin 1024) :
    shapeCast S1x256x1024 v h (ix3 0 r o) = v (ix2 r o) := by
  pointwise

/-- An entry of a block's product: over the four experts `k`, the masked token times expert `k`'s column. -/
theorem chunk_apply (w : S4x512x1024.Idx → EReal) (x : S256x512.Idx → EReal) (m : S256x4.Idx → EReal) (r : Fin 256) (o : Fin 1024) :
    k0_pay10 (F := Ideal) (k0_pay2 (F := Ideal) w) x m (ix2 r o)
      = ∑ k : Fin 4, ∑ d : Fin 512, (x (ix2 r d) * m (ix2 r k)) * w (ix3 k d o) := by
  pointwise [k0_pay10, k0_pay2]
  rw [Fin.sum_univ_tiles 4 512 (by norm_num)]
  refine Finset.sum_congr rfl fun k _ => Finset.sum_congr rfl fun d _ => ?_
  have hd := d.isLt
  have ek : (k.val * 512 + d.val) / 512 = k.val := by omega
  have ed : (k.val * 512 + d.val) % 512 = d.val := by omega
  have ew : w (ix3 ⟨(k.val * 512 + d.val) / 512, by omega⟩ ⟨(k.val * 512 + d.val) % 512, by omega⟩ o) = w (ix3 k d o) :=
    congrArg₂ (fun a b => w (ix3 a b o)) (Fin.ext ek) (Fin.ext ed)
  refine congrArg₂ (· * ·) ?_ ew
  fin_cases k
  · rw [dif_pos (by simp)]
    exact congrArg (fun a => x (ix2 r a) * m (ix2 r 0)) (Fin.ext (by simp))
  · rw [dif_neg (by simp), dif_pos (by simp)]
    exact congrArg (fun a => x (ix2 r a) * m (ix2 r 1)) (Fin.ext (by simp))
  · rw [dif_neg (by simp; omega), dif_neg (by simp; omega), dif_pos (by simp; omega)]
    exact congrArg (fun a => x (ix2 r a) * m (ix2 r 2)) (Fin.ext (by simp; omega))
  · rw [dif_neg (by simp; omega), dif_neg (by simp; omega), dif_neg (by simp; omega)]
    exact congrArg (fun a => x (ix2 r a) * m (ix2 r 3)) (Fin.ext (by simp; omega))

/-- The part put in the first send slot is that product. -/
theorem slot0_apply (w : S4x512x1024.Idx → EReal) (x : S256x512.Idx → EReal) (m : S256x4.Idx → EReal) (r : Fin 256) (o : Fin 1024) :
    k0_pay4 (F := Ideal) (k0_pay3 (F := Ideal) w x m) (ix3 0 r o) = k0_pay10 (F := Ideal) (k0_pay2 (F := Ideal) w) x m (ix2 r o) := by
  unfold k0_pay4
  pointwise
  rfl

/-- So is the part put in the second. -/
theorem slot1_apply (w : S2048x1024.Idx → EReal) (x : S256x512.Idx → EReal) (m : S256x4.Idx → EReal) (r : Fin 256) (o : Fin 1024) :
    k0_pay8 (F := Ideal) w (k0_pay5 (F := Ideal) x) m (k0_pay6 (F := Ideal) x m) (k0_pay7 (F := Ideal) m) (ix3 0 r o)
      = k0_pay10 (F := Ideal) w x m (ix2 r o) := by
  unfold k0_pay8
  rw [shapeCast_drop_apply]
  rfl

/-- So is the part put in the third. -/
theorem slot2_apply (w : S2048x1024.Idx → EReal) (x : S256x512.Idx → EReal) (m : S256x4.Idx → EReal) (r : Fin 256) (o : Fin 1024) :
    k0_pay9 (F := Ideal) w x m (ix3 0 r o) = k0_pay10 (F := Ideal) w x m (ix2 r o) := by
  unfold k0_pay9
  rw [shapeCast_drop_apply]
  rfl

/-- The result block: the own product and the three received parts. -/
theorem total_apply (a : S256x1024.Idx → EReal) (b₀ b₁ b₂ : S1x256x1024.Idx → EReal) (r : Fin 256) (o : Fin 1024) :
    k0_pay11 (F := Ideal) a b₀ b₁ b₂ (ix2 r o) = a (ix2 r o) + b₀ (ix3 0 r o) + b₁ (ix3 0 r o) + b₂ (ix3 0 r o) := by
  pointwise [k0_pay11]

end Cert.Value

end
-- ==== Proof.Value.Spec.lean ====
/-
# What both programs compute

A token goes to the expert its route index names, which serves the first 51 tokens that chose it. `earlier` counts the
tokens before one that chose an expert, `Served` says the expert serves the token, `part` is what the expert adds to the
token's result.
-/
module

public import Idealize.ShloMosaic.Lib.Pointwise

@[expose] public section

set_option maxRecDepth 16384

noncomputable section

namespace Cert.Value

open Idealize.ShloMosaic
open scoped BigOperators

/-- How many tokens before `t` chose the expert whose number is the word `e`. -/
def earlier (idx : (⟨2, ![1024, 1]⟩ : Shape).Idx → BitVec 32) (t : Fin 1024) (e : BitVec 32) : ℕ :=
  (Finset.univ.filter fun j : Fin 1024 => j < t ∧ idx (ix2 j 0) = e).card

/-- The expert with number `e` serves token `t`: the token chose it, and fewer than 51 did before. -/
def Served (idx : (⟨2, ![1024, 1]⟩ : Shape).Idx → BitVec 32) (t : Fin 1024) (e : BitVec 32) : Prop :=
  idx (ix2 t 0) = e ∧ earlier idx t e < 51

/-- Whether token t is served by expert e can be decided. -/
instance (idx : (⟨2, ![1024, 1]⟩ : Shape).Idx → BitVec 32) (t : Fin 1024) (e : BitVec 32) : Decidable (Served idx t e) :=
  inferInstanceAs (Decidable (_ ∧ _))

/-- A count of tokens is at most 1024. -/
theorem earlier_le (idx : (⟨2, ![1024, 1]⟩ : Shape).Idx → BitVec 32) (t : Fin 1024) (e : BitVec 32) : earlier idx t e ≤ 1024 :=
  (Finset.card_le_univ _).trans_eq (Fintype.card_fin 1024)

/-- What expert `e` adds to entry `o` of token `t`'s result: its product if it serves the token, else zero. -/
def part (x : (⟨2, ![1024, 512]⟩ : Shape).Idx → EReal) (idx : (⟨2, ![1024, 1]⟩ : Shape).Idx → BitVec 32)
    (W : (⟨3, ![16, 512, 1024]⟩ : Shape).Idx → EReal) (t : Fin 1024) (o : Fin 1024) (e : Fin 16) : EReal :=
  if Served idx t (BitVec.ofNat 32 e.val) then ∑ d : Fin 512, x (ix2 t d) * W (ix3 e d o) else 0

end Cert.Value

end
-- ==== Proof.Value.Mask.lean ====
/-
# The kernel's mask

The kernel counts the earlier tokens by a product with a triangle of ones; over the extended reals the sum is the count,
and the mask is one where the expert serves the token and zero elsewhere.
-/
module

public import proofs.«01_k».proof.Proof.Gen.KernelIdeal.Skeleton
public import proofs.«01_k».proof.Proof.Value.Spec
public import Idealize.ShloMosaic.Lib.WordCmp

@[expose] public section

set_option maxRecDepth 16384

noncomputable section

namespace Cert.Value

open Cert.KernelIdeal Cert.KernelIdeal.Gen
open Idealize.ShloMosaic Idealize.ShloMosaic.WordCmp
open scoped BigOperators

/-- A comparison's answer made a number is one or zero. -/
theorem sitofp_bool (p : Prop) [Decidable p] :
    FloatOps.sitofp (F := Ideal) FTy.f32 ((BitVec.ofBool (decide p)).setWidth 32) = if p then 1 else 0 := by
  by_cases h : p
  · rw [if_pos h, decide_eq_true h]
    show (((BitVec.setWidth 32 (BitVec.ofBool true)).toInt : ℝ) : EReal) = 1
    rw [(by decide : (BitVec.setWidth 32 (BitVec.ofBool true)).toInt = 1)]
    simp
  · rw [if_neg h, decide_eq_false h]
    show (((BitVec.setWidth 32 (BitVec.ofBool false)).toInt : ℝ) : EReal) = 0
    rw [(by decide : (BitVec.setWidth 32 (BitVec.ofBool false)).toInt = 0)]
    simp

/-- The kernel's bound on the count is fifty-one. -/
theorem bound_eq : Ideal.ofBits FTy.f32 1112276992#32 = ((51 : ℕ) : EReal) := by
  have h : Ideal.ofBits FTy.f32 1112276992#32 = ((51 : ℝ) : EReal) := by
    simp [Ideal.ofBits, Ideal.ieee, -EReal.coe_mul]; norm_num
  rw [h]
  rfl

/-- The product with the triangle counts the earlier tokens. -/
theorem triangle_sum (idx : S1024x1.Idx → BitVec 32) (t : Fin 1024) (e : BitVec 32) :
    (∑ j : Fin 1024, (if j.val < t.val then (1 : EReal) else 0) * (if idx (ix2 j 0) = e then 1 else 0)) = (earlier idx t e : EReal) := by
  have h : ∀ j : Fin 1024, (if j.val < t.val then (1 : EReal) else 0) * (if idx (ix2 j 0) = e then 1 else 0)
      = if j < t ∧ idx (ix2 j 0) = e then 1 else 0 := fun j => by
    by_cases h₁ : j.val < t.val <;> by_cases h₂ : idx (ix2 j 0) = e <;> simp [h₁, h₂, Fin.lt_def]
  rw [Finset.sum_congr rfl fun j _ => h j, Finset.sum_boole]
  rfl

/-- The mask is one where the expert, named by its word, serves the token, and zero elsewhere. -/
theorem mask_apply (w : BitVec 32) (idx : S1024x1.Idx → BitVec 32) (t : Fin 1024) (k : Fin 4) :
    k0_pay1 (F := Ideal) w idx (ix2 t k) = if Served idx t (w * 4#32 + BitVec.ofNat 32 k.val) then 1 else 0 := by
  pointwise [k0_pay1]
  have hadd : IntOp.addi (Scalar.muli w 4#32) (BitVec.ofNat 32 k.val) = w * 4#32 + BitVec.ofNat 32 k.val := rfl
  rw [hadd]
  generalize w * 4#32 + BitVec.ofNat 32 k.val = e
  have hlt : ∀ j : Fin 1024, IntOp.cmpi .slt (BitVec.ofNat 32 j.val) (BitVec.ofNat 32 t.val) = BitVec.ofBool (decide (j.val < t.val)) := fun j =>
    cmpi_slt_ofNat (by have := j.isLt; omega) (by have := t.isLt; omega)
  simp only [cmpi_eq_eq, hlt, sitofp_bool, triangle_sum, bound_eq]
  unfold Served
  have hc : ((earlier idx t e : EReal) < ((51 : ℕ) : EReal)) ↔ earlier idx t e < 51 := by exact_mod_cast Iff.rfl
  by_cases h₁ : idx (ix2 t 0) = e <;> by_cases h₂ : earlier idx t e < 51 <;> simp [h₁, h₂, hc]

end Cert.Value

end
-- ==== Proof.Value.Part.lean ====
/-
# A device's part of a block of rows

Device `p`'s product for the rows `256 q … 256 q + 255` is, entry by entry, the sum of its four experts' parts.
-/
module

public import proofs.«01_k».proof.Proof.Ideal.Final
public import proofs.«01_k».proof.Proof.Value.Chunk
public import proofs.«01_k».proof.Proof.Value.Mask
public import Idealize.ShloMosaic.Lib.Layout

@[expose] public section

set_option maxRecDepth 16384

noncomputable section

namespace Cert.Value

open Cert.KernelIdeal Cert.KernelIdeal.Gen Cert.KernelIdeal.Exchange
open Idealize.ShloMosaic Idealize.ShloMosaic.TcCoe
open scoped BigOperators

variable (m : (ℓ : Loc nD τ sig) → Buf (Elt Ideal) ℓ)

/-- Row `r` of block `q`. -/
abbrev rowOf (q : Fin 4) (r : Fin 256) : Fin 1024 := ⟨q.val * 256 + r.val, by have := q.isLt; have := r.isLt; omega⟩
/-- Expert `k` of device `p`. -/
abbrev expertOf (p : Fin 4) (k : Fin 4) : Fin 16 := ⟨p.val * 4 + k.val, by have := p.isLt; have := k.isLt; omega⟩

/-- A device's word is its number. -/
theorem me_eq (p : Dev nD) : me p = BitVec.ofNat 32 p.val := by revert p; decide

/-- The word of a device's expert. -/
theorem expert_word (p k : Fin 4) : BitVec.ofNat 32 p.val * 4#32 + BitVec.ofNat 32 k.val = BitVec.ofNat 32 (expertOf p k).val := by
  revert p k; decide

/-- The rows a load takes of the tokens. -/
theorem xRows_apply (p : Dev nD) (q : Fin 4) (off : Fin 2 → Nat) (h : ∀ a, off a + S256x512.size a ≤ S1024x512.size a)
    (e : off = ![256 * q.val, 0]) (r : Fin 256) (d : Fin 512) :
    xRows m p off h (ix2 r d) = m ((p : Thread nD τ).loc main_arg0) (ix2 (rowOf q r) d) := by
  subst e
  rw [← xAt_eq m p]
  unfold xRows
  refine congrArg (xAt m p) (funext fun a => Fin.ext ?_)
  match a with
  | ⟨0, _⟩ =>
    show 256 * q.val + 1 * r.val = q.val * 256 + r.val
    omega
  | ⟨1, _⟩ =>
    show 0 + 1 * d.val = d.val
    omega

/-- The rows a load takes of the mask. -/
theorem maskRows_apply (p : Dev nD) (q : Fin 4) (off : Fin 2 → Nat) (h : ∀ a, off a + S256x4.size a ≤ S1024x4.size a)
    (e : off = ![256 * q.val, 0]) (r : Fin 256) (k : Fin 4) :
    maskRows m p off h (ix2 r k)
      = if Served (m ((p : Thread nD τ).loc main_arg2)) (rowOf q r) (BitVec.ofNat 32 (expertOf p k).val) then 1 else 0 := by
  subst e
  rw [← expert_word, ← me_eq, ← mask_apply, ← idxAt_eq m p]
  unfold maskRows
  refine congrArg (maskAt m p) (funext fun a => Fin.ext ?_)
  match a with
  | ⟨0, _⟩ =>
    show 256 * q.val + 1 * r.val = q.val * 256 + r.val
    omega
  | ⟨1, _⟩ =>
    show 0 + 1 * k.val = k.val
    omega

/-- The part of the rows of block `q` that device `p` computes. -/
theorem product_apply (x : (⟨2, ![1024, 512]⟩ : Shape).Idx → EReal) (idx : (⟨2, ![1024, 1]⟩ : Shape).Idx → BitVec 32)
    (W : (⟨3, ![16, 512, 1024]⟩ : Shape).Idx → EReal) (p : Dev nD)
    (hx : m ((p : Thread nD τ).loc main_arg0) = x) (hi : m ((p : Thread nD τ).loc main_arg2) = idx)
    (hW : m ((p : Thread nD τ).loc main_arg3) = Layout.block ⟨3, ![4, 512, 1024]⟩ ⟨3, ![16, 512, 1024]⟩ 0 4 p W)
    (q : Fin 4) (off : Fin 2 → Nat) (h : ∀ a, off a + S256x512.size a ≤ S1024x512.size a) (e : off = ![256 * q.val, 0])
    (off' : Fin 2 → Nat) (h' : ∀ a, off' a + S256x4.size a ≤ S1024x4.size a) (e' : off' = ![256 * q.val, 0]) (r : Fin 256) (o : Fin 1024) :
    k0_pay10 (F := Ideal) (k0_pay2 (F := Ideal) (wAt m p)) (xRows m p off h) (maskRows m p off' h') (ix2 r o)
      = ∑ k : Fin 4, part x idx W (rowOf q r) o (expertOf p k) := by
  refine (chunk_apply _ _ _ r o).trans (Finset.sum_congr rfl fun k _ => ?_)
  have hw : ∀ d : Fin 512, wAt m p (ix3 k d o) = W (ix3 (expertOf p k) d o) := fun d => by
    rw [wAt_eq, hW]
    refine congrArg W (funext fun a => Fin.ext ?_)
    fin_cases a <;> rfl
  rw [maskRows_apply m p q off' h' e' r k, hi]
  unfold part
  by_cases hs : Served idx (rowOf q r) (BitVec.ofNat 32 (expertOf p k).val)
  · rw [if_pos hs, if_pos hs]
    refine Finset.sum_congr rfl fun d _ => ?_
    rw [mul_one, hw, xRows_apply m p q off h e r d, hx]
  · rw [if_neg hs, if_neg hs]
    exact Finset.sum_eq_zero fun d _ => by rw [mul_zero, zero_mul]

end Cert.Value

end
-- ==== Proof.Value.Ref.lean ====
/-
# The reference, entry by entry
-/
module

public import proofs.«01_k».proof.Proof.Gen.ReferenceIdeal
public import proofs.«01_k».proof.Proof.Value.Spec
public import Idealize.ShloMosaic.Lib.Routing.OpsOne
public import Idealize.ShloMosaic.Lib.WordCmp

@[expose] public section

set_option maxRecDepth 16384

noncomputable section

namespace Cert.Value

open Cert.ReferenceIdeal Cert.ReferenceIdeal.Gen
open Idealize.ShloMosaic Idealize.ShloMosaic.WordCmp
open scoped BigOperators

/-- Which expert each token chose, as words zero and one. -/
def refChose (idx : S1024x1.Idx → BitVec 32) : S1024x16.Idx → BitVec 32 :=
  extui 32 (cmpi .eq (broadcastInDim S1024x16 ![0, 1] bcast_S1024x1_S1024x16_0_1 idx) (broadcastInDim S1024x16 ![0, 1] bcast_S1x16_S1024x16_0_1 (broadcastInDim S1x16 ![1] bcast_S16_S1x16_1 (iotaInDim S16 32 0)))) natLt_1_32

/-- Where each token chose each expert, as words zero and one. -/
theorem refChose_apply (idx : S1024x1.Idx → BitVec 32) (t : Fin 1024) (e : Fin 16) :
    refChose idx (ix2 t e) = if idx (ix2 t 0) = BitVec.ofNat 32 e.val then 1#32 else 0#32 := by
  pointwise [refChose]
  rw [cmpi_eq_eq]
  by_cases h : idx (ix2 t 0) = BitVec.ofNat 32 e.val
  · rw [decide_eq_true h, if_pos h]; decide
  · rw [decide_eq_false h, if_neg h]; decide

/-- The running sum of those words. -/
def refSum (idx : S1024x1.Idx → BitVec 32) : S1024x16.Idx → BitVec 32 :=
  Host.reduceWindow IntOp.addi ![1024, 1] ![1, 1] ![1023, 0] ![0, 0] (refChose idx) (broadcastInDim S_ ![] bcast_S_S_ (constantI S_ 32 0#32)) reduceWindows_S1024x16_S1024x16_w1024s1p1023_0_w1s1p0_0 h_S_

/-- How many tokens up to `t`, itself included, chose an expert: the earlier ones, and it if it did. -/
theorem count_upto (idx : S1024x1.Idx → BitVec 32) (t : Fin 1024) (e : BitVec 32) :
    ((List.range (t.val + 1)).map fun i => if h : i < 1024 then (if idx (ix2 ⟨i, h⟩ 0) = e then 1 else 0) else 0).sum
      = earlier idx t e + if idx (ix2 t 0) = e then 1 else 0 := by
  have ht := t.isLt
  rw [List.range_succ, List.map_append, List.sum_append, List.map_singleton, List.sum_singleton, dif_pos ht]
  refine congrArg (· + _) ?_
  unfold earlier
  rw [Finset.card_filter, Finset.sum_congr rfl (g := fun j : Fin 1024 => (fun n : ℕ => if n < t.val then
      (if h : n < 1024 then (if idx (ix2 ⟨n, h⟩ 0) = e then 1 else 0) else 0) else 0) j.val) fun j _ => ?_,
    Fin.sum_univ_eq_sum_range (fun n : ℕ => if n < t.val then
      (if h : n < 1024 then (if idx (ix2 ⟨n, h⟩ 0) = e then 1 else 0) else 0) else 0) 1024, ← Finset.sum_filter]
  · rw [← List.sum_toFinset _ List.nodup_range]
    refine Finset.sum_congr (Finset.ext fun n => ?_) fun _ _ => rfl
    simp only [List.mem_toFinset, List.mem_range, Finset.mem_filter, Finset.mem_range]
    omega
  · dsimp only
    rw [dif_pos j.isLt]
    by_cases h₁ : j.val < t.val <;> simp [h₁, Fin.lt_def]

/-- The running sum is that count. -/
theorem refSum_apply (idx : S1024x1.Idx → BitVec 32) (t : Fin 1024) (e : Fin 16) :
    refSum idx (ix2 t e) = BitVec.ofNat 32 (earlier idx t (BitVec.ofNat 32 e.val) + if idx (ix2 t 0) = BitVec.ofNat 32 e.val then 1 else 0) := by
  rw [← count_upto]
  exact Routing.cumsum_rows (R := 1024) (Rm1 := 1023) (C := 16) rfl (refChose idx)
    (fun i c => if h : i < 1024 then (if idx (ix2 ⟨i, h⟩ 0) = BitVec.ofNat 32 c then 1 else 0) else 0)
    (fun i c => by
      refine (refChose_apply idx i c).trans ?_
      rw [dif_pos i.isLt]
      split <;> rfl) _ rfl _ _ t e

/-- Which expert serves which token, as bits. -/
def refServed (idx : S1024x1.Idx → BitVec 32) : S1024x16.Idx → BitVec 1 :=
  andi (cmpi .eq (refChose idx) (broadcastInDim S1024x16 ![] bcast_S_S1024x16 (constantI S_ 32 1#32))) (cmpi .slt (subi (refSum idx) (refChose idx)) (broadcastInDim S1024x16 ![] bcast_S_S1024x16 (constantI S_ 32 51#32)))

/-- The bit is set where the expert serves the token. -/
theorem refServed_apply (idx : S1024x1.Idx → BitVec 32) (t : Fin 1024) (e : Fin 16) :
    refServed idx (ix2 t e) = if Served idx t (BitVec.ofNat 32 e.val) then 1#1 else 0#1 := by
  pointwise [refServed]
  rw [refSum_apply, refChose_apply]
  have hle := earlier_le idx t (BitVec.ofNat 32 e.val)
  have hS : Served idx t (BitVec.ofNat 32 e.val) ↔ idx (ix2 t 0) = BitVec.ofNat 32 e.val ∧ earlier idx t (BitVec.ofNat 32 e.val) < 51 := Iff.rfl
  by_cases h : idx (ix2 t 0) = BitVec.ofNat 32 e.val
  · have hs : IntOp.subi (BitVec.ofNat 32 (earlier idx t (BitVec.ofNat 32 e.val) + 1)) 1#32 = BitVec.ofNat 32 (earlier idx t (BitVec.ofNat 32 e.val)) := by
      show BitVec.ofNat 32 (earlier idx t (BitVec.ofNat 32 e.val) + 1) - BitVec.ofNat 32 1 = _
      rw [BitVec.ofNat_add, BitVec.add_sub_cancel]
    rw [if_pos h, if_pos h, hs, cmpi_slt_ofNat (w := 32) (b := 51) (by omega) (by omega), cmpi_eq_eq]
    by_cases hn : earlier idx t (BitVec.ofNat 32 e.val) < 51
    · rw [if_pos (hS.2 ⟨h, hn⟩), decide_eq_true hn]; decide
    · rw [if_neg fun q => hn (hS.1 q).2, decide_eq_false hn]; decide
  · rw [if_neg h, if_neg fun q => h (hS.1 q).1]
    generalize IntOp.cmpi .slt _ _ = b
    revert b; decide

/-- The reference's result. -/
def refOut (x : S1024x512.Idx → EReal) (idx : S1024x1.Idx → BitVec 32) (W : S16x512x1024.Idx → EReal) : S1024x1024.Idx → EReal :=
  Host.reduceAdd (F := Ideal) (φ := .f32) (select (broadcastInDim S16x1024x1024 ![0, 1, 2] bcast_S16x1024x1_S16x1024x1024_0_1_2 (broadcastInDim S16x1024x1 ![0, 1] bcast_S16x1024_S16x1024x1_0_1 (transpose S16x1024 [1, 0] (refServed idx) transposes_S1024x16_S16x1024_1_0))) (transpose S16x1024x1024 [0, 2, 1] (Host.dotGeneral (F := Ideal) (φ₁ := .f32) (φ₂ := .f32) dot_S16x512x1024_S1024x512_S16x1024x1024_1_1_02_0_n_n none (extf (F := Ideal) (φ := .bf16) .f32 W bitsLt_bf16_f32) (extf (F := Ideal) (φ := .bf16) .f32 x bitsLt_bf16_f32)) transposes_S16x1024x1024_S16x1024x1024_0_2_1) (broadcastInDim S16x1024x1024 ![] bcast_S_S16x1024x1024 (id (constant (F := Ideal) S_ .f32 0x00000000#32)))) (constant (F := Ideal) S_ .f32 0x00000000#32) reducesTo_S16x1024x1024_S1024x1024_d0 h_S_

/-- An entry of the reference's result is the sum of the sixteen experts' parts. -/
theorem refOut_apply (x : S1024x512.Idx → EReal) (idx : S1024x1.Idx → BitVec 32) (W : S16x512x1024.Idx → EReal) (t o : Fin 1024) :
    refOut x idx W (ix2 t o) = ∑ e : Fin 16, part x idx W t o e := by
  pointwise [refOut]
  refine Finset.sum_congr rfl fun e _ => ?_
  rw [refServed_apply]
  unfold part
  split
  · refine Eq.trans (b := ∑ d : Fin 512, W (ix3 e d o) * x (ix2 t d)) rfl ?_
    exact Finset.sum_congr rfl fun d _ => mul_comm (W (ix3 e d o)) (x (ix2 t d))
  · show Ideal.ofBits FTy.f32 0#32 = 0
    simp [Ideal.ofBits, Ideal.ieee]

end Cert.Value

end
-- ==== Proof.Value.Main.lean ====
/-
# Each device's result is its block of the reference's

A device's result block is the sum of four devices' parts of its rows, which together are the sixteen experts' parts the
reference adds up.
-/
module

public import proofs.«01_k».proof.Proof.Value.Part
public import proofs.«01_k».proof.Proof.Value.Ref

@[expose] public section

set_option maxRecDepth 16384

noncomputable section

namespace Cert.Value

open Cert.KernelIdeal Cert.KernelIdeal.Gen Cert.KernelIdeal.Exchange
open Idealize.ShloMosaic Idealize.ShloMosaic.TcCoe
open scoped BigOperators

variable (m : (ℓ : Loc nD τ sig) → Buf (Elt Ideal) ℓ)

/-- The rows a device computes for the device one ahead, named by the receiver. -/
theorem ahead1 (c : Dev nD) : k0_off1 (bwd 0 c) 1#32 = ![256 * c.val, 0] ∧ k0_off2 (bwd 0 c) 1#32 = ![256 * c.val, 0] := by
  revert c; decide +kernel
/-- Two ahead. -/
theorem ahead2 (c : Dev nD) : k0_off1 (bwd 1 c) 2#32 = ![256 * c.val, 0] ∧ k0_off2 (bwd 1 c) 2#32 = ![256 * c.val, 0] := by
  revert c; decide +kernel
/-- Three ahead. -/
theorem ahead3 (c : Dev nD) : k0_off1 (bwd 2 c) 3#32 = ![256 * c.val, 0] ∧ k0_off2 (bwd 2 c) 3#32 = ![256 * c.val, 0] := by
  revert c; decide +kernel

/-- A device and the three that send to it are all four. -/
theorem sum_devices (f : Fin 4 → EReal) (c : Dev nD) : f c + f (bwd 0 c) + f (bwd 1 c) + f (bwd 2 c) = ∑ p : Fin 4, f p := by
  rw [Fin.sum_univ_four]
  fin_cases c
  · show f 0 + f 3 + f 2 + f 1 = _
    abel
  · show f 1 + f 0 + f 3 + f 2 = _
    abel
  · show f 2 + f 1 + f 0 + f 3 = _
    abel
  · show f 3 + f 2 + f 1 + f 0 = _
    abel

/-- An entry of a device's result block is the sum of the sixteen experts' parts of its row. -/
theorem outAt_apply (x : (⟨2, ![1024, 512]⟩ : Shape).Idx → EReal) (idx : (⟨2, ![1024, 1]⟩ : Shape).Idx → BitVec 32)
    (W : (⟨3, ![16, 512, 1024]⟩ : Shape).Idx → EReal)
    (hx : ∀ p : Dev nD, m ((p : Thread nD τ).loc main_arg0) = x) (hi : ∀ p : Dev nD, m ((p : Thread nD τ).loc main_arg2) = idx)
    (hW : ∀ p : Dev nD, m ((p : Thread nD τ).loc main_arg3) = Layout.block ⟨3, ![4, 512, 1024]⟩ ⟨3, ![16, 512, 1024]⟩ 0 4 p W)
    (c : Dev nD) (r : Fin 256) (o : Fin 1024) :
    outAt m c (ix2 r o) = ∑ e : Fin 16, part x idx W (rowOf c r) o e := by
  have hP := fun p off h e off' h' e' => product_apply m x idx W p (hx p) (hi p) (hW p) c off h e off' h' e' r o
  refine (total_apply _ _ _ _ r o).trans ?_
  rw [hP c _ _ (k0_off3_eq c) _ _ (k0_off4_eq c),
    show slab m (bwd 0 c) 0 (ix3 0 r o) = _ from (slot0_apply _ _ _ r o).trans (hP _ _ _ (ahead1 c).1 _ _ (ahead1 c).2),
    show slab m (bwd 1 c) 1 (ix3 0 r o) = _ from (slot1_apply _ _ _ r o).trans (hP _ _ _ (ahead2 c).1 _ _ (ahead2 c).2),
    show slab m (bwd 2 c) 2 (ix3 0 r o) = _ from (slot2_apply _ _ _ r o).trans (hP _ _ _ (ahead3 c).1 _ _ (ahead3 c).2),
    sum_devices (fun p => ∑ k : Fin 4, part x idx W (rowOf c r) o (expertOf p k)) c]
  exact (Fin.sum_univ_tiles (N := 16) 4 4 (by norm_num) fun e => part x idx W (rowOf c r) o e).symm

/-- The result block a device ends with is its block of the reference's result. -/
theorem block_eq (x : (⟨2, ![1024, 512]⟩ : Shape).Idx → EReal) (idx : (⟨2, ![1024, 1]⟩ : Shape).Idx → BitVec 32)
    (W : (⟨3, ![16, 512, 1024]⟩ : Shape).Idx → EReal)
    (hx : ∀ p : Dev nD, m ((p : Thread nD τ).loc main_arg0) = x) (hi : ∀ p : Dev nD, m ((p : Thread nD τ).loc main_arg2) = idx)
    (hW : ∀ p : Dev nD, m ((p : Thread nD τ).loc main_arg3) = Layout.block ⟨3, ![4, 512, 1024]⟩ ⟨3, ![16, 512, 1024]⟩ 0 4 p W)
    (c : Dev nD) :
    outAt m c = Layout.block ⟨2, ![256, 1024]⟩ ⟨2, ![1024, 1024]⟩ 0 4 c (refOut x idx W) := by
  funext j
  obtain ⟨r, o, rfl⟩ : ∃ (r : Fin 256) (o : Fin 1024), j = ix2 r o := ⟨j 0, j 1, by funext a; fin_cases a <;> rfl⟩
  rw [outAt_apply m x idx W hx hi hW c r o, ← refOut_apply, Layout.block_apply]
  refine congrArg (refOut x idx W) (funext fun a => Fin.ext ?_)
  rw [Layout.Tiles.idx_val]
  fin_cases a <;> rfl

end Cert.Value

end
-- ==== Proof.lean ====
/-
# The proof of the claim

The two runs of the kernel come from Proof/Float (any floats) and Proof/Ideal (any floats, read at the extended reals),
the reference's from its printed operations; Proof/Value compares what the two hold.
-/
module

public import proofs.«01_k».proof.Defs
public import proofs.«01_k».proof.Proof.Gen.ReferenceIdeal.Run
public import proofs.«01_k».proof.Proof.Float.Final
public import proofs.«01_k».proof.Proof.Ideal.Final
public import Idealize.ShloMosaic.Lib.Quiescent
public import proofs.«01_k».proof.Proof.Value.Main

@[expose] public section

noncomputable section

namespace Cert.Proof

open Idealize.ShloMosaic Idealize.SL.Sem

/-- The kernel ends with its arguments as they were and every semaphore at zero, at the word floats. -/
theorem frame_kernel : @Cert.quiescent_Kernel Cert.Kernel.Gen.facts := fun m g _ =>
  (θ_run _ _ _).mono (fun _ h => ⟨fun c => (h.1 c).2, h.2⟩) (Cert.Kernel.Exchange.run_values m g)

/-- The same at the extended reals. -/
theorem frame_kernelIdeal : @Cert.quiescent_KernelIdeal Cert.KernelIdeal.Gen.facts := fun m g _ =>
  (θ_run _ _ _).mono (fun _ h => ⟨fun c => (h.1 c).2, h.2⟩) (Cert.KernelIdeal.Exchange.run_values m g)

/-- The reference ends with its arguments as they were; it has no semaphore. -/
theorem frame_reference : @Cert.quiescent_ReferenceIdeal Cert.ReferenceIdeal.Gen.facts := fun m g _ =>
  (θ_run _ _ _).mono (fun r h => ⟨fun c => (h c).2, sem_eq_zero_of_no_sems (by decide) r.2⟩) (Cert.ReferenceIdeal.Value.run m g)

/-- Each device's result is its block of the reference's result. -/
theorem value : @Cert.algebraic_KernelIdeal_ReferenceIdeal Cert.KernelIdeal.Gen.facts Cert.ReferenceIdeal.Gen.facts :=
  fun m g m' g' _ hargs =>
    ⟨Cert.Value.refOut (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg2))
        (m' (((0 : Dev Cert.ReferenceIdeal.nD).tc : Thread Cert.ReferenceIdeal.nD Cert.ReferenceIdeal.τ).loc Cert.ReferenceIdeal.main_arg3)),
      (θ_run _ _ _).mono (fun _ h c => ⟨(h.1 c).1.trans (Cert.Value.block_eq m _ _ _ (fun p => (hargs p).1) (fun p => (hargs p).2.2.1)
          (fun p => (hargs p).2.2.2) c), (h.1 c).2⟩)
        (Cert.KernelIdeal.Exchange.run_values m g),
      (θ_run _ _ _).mono (fun _ h => h 0) (Cert.ReferenceIdeal.Value.run m' g')⟩

/-- Everything the certificate claims: the three frames, that idealizing preserves the kernel, and the value. -/
theorem claim : Cert.Claim :=
  ⟨Cert.Kernel.Gen.facts, Cert.KernelIdeal.Gen.facts, Cert.ReferenceIdeal.Gen.facts,
    frame_kernel, frame_kernelIdeal, frame_reference, trivial, value⟩

end Cert.Proof

end
